-- ==== Defs.lean ====
def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_b [hPre_finite_b : Cert.Pre_finite_b.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_b.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_b [hPre_finite_b : Cert.Pre_finite_b.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5))) = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_a [hPre_finite_a : Cert.Pre_finite_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1))).1 = (fun _ => 1#1)
    ∧ (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1))).2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_a [hPre_finite_a : Cert.Pre_finite_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1))).1 = (fun _ => 1#1)
    ∧ (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ r.2.sem = fun _ => 0)

def quiescent_AttnBIdeal_pre_finite_b [hAttnBIdeal : Cert.AttnBIdeal.Facts] [hPre_finite_b : Cert.Pre_finite_b.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_b m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5))
      ∧ r.2.sem = fun _ => 0)

def quiescent_AttnBRefIdeal_pre_finite_b [hAttnBRefIdeal : Cert.AttnBRefIdeal.Facts] [hPre_finite_b : Cert.Pre_finite_b.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_b m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnAIdeal_pre_finite_a [hAttnAIdeal : Cert.AttnAIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_AttnARefIdeal_pre_finite_a [hAttnARefIdeal : Cert.AttnARefIdeal.Facts] [hPre_finite_a : Cert.Pre_finite_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_AttnB_AttnBIdeal : Prop :=
  True

def algebraic_AttnBIdeal_AttnBRefIdeal_pre_finite_b [hAttnBIdeal : Cert.AttnBIdeal.Facts] [hAttnBRefIdeal : Cert.AttnBRefIdeal.Facts] [hPre_finite_b : Cert.Pre_finite_b.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_b m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)
      ∧ m' ((c.tc : Thread Cert.AttnBRefIdeal.nD Cert.AttnBRefIdeal.τ).loc Cert.AttnBRefIdeal.main_arg4) = m ((c.tc : Thread Cert.AttnBIdeal.nD Cert.AttnBIdeal.τ).loc Cert.AttnBIdeal.main_arg4)
      ∧ m' ((c.tc : Thread Cert.AttnBRefIdeal.nD Cert.AttnBRefIdeal.τ).loc Cert.AttnBRefIdeal.main_arg5) = m ((c.tc : Thread Cert.AttnBIdeal.nD Cert.AttnBIdeal.τ).loc Cert.AttnBIdeal.main_arg5)) →
    ∃ (v0 : (c : Dev Cert.AttnBIdeal.nD) → Buf (Elt Ideal) ((c.tc : Thread Cert.AttnBIdeal.nD Cert.AttnBIdeal.τ).loc Cert.AttnBIdeal.main_v1)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v1) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
          ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
          ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v62) = v0 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3)
          ∧ r.2.mem ((c.tc : Thread Cert.AttnBRefIdeal.nD Cert.AttnBRefIdeal.τ).loc Cert.AttnBRefIdeal.main_arg4) = m' ((c.tc : Thread Cert.AttnBRefIdeal.nD Cert.AttnBRefIdeal.τ).loc Cert.AttnBRefIdeal.main_arg4)
          ∧ r.2.mem ((c.tc : Thread Cert.AttnBRefIdeal.nD Cert.AttnBRefIdeal.τ).loc Cert.AttnBRefIdeal.main_arg5) = m' ((c.tc : Thread Cert.AttnBRefIdeal.nD Cert.AttnBRefIdeal.τ).loc Cert.AttnBRefIdeal.main_arg5))

def preserves_AttnA_AttnAIdeal : Prop :=
  IdealRules.named_const.Statement Cert.AttnAIdeal.κ "mask" .f32 0xF149F2CA#32 ⊥
  ∧ IdealRules.named_const.Statement Cert.AttnAIdeal.κ "log2e" .f32 0x3FB8AA3B#32 (((Real.log 2)⁻¹ : ℝ) : EReal)

def algebraic_AttnAIdeal_AttnARefIdeal_pre_finite_a [hAttnAIdeal : Cert.AttnAIdeal.Facts] [hAttnARefIdeal : Cert.AttnARefIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)) →
    ∃ (v0 : (c : Dev Cert.AttnAIdeal.nD) → Buf (Elt Ideal) ((c.tc : Thread Cert.AttnAIdeal.nD Cert.AttnAIdeal.τ).loc Cert.AttnAIdeal.main_v1)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v1) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v44) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v49)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v49) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v170) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hAttnB : Cert.AttnB.Facts) (hAttnBIdeal : Cert.AttnBIdeal.Facts) (hAttnBRefIdeal : Cert.AttnBRefIdeal.Facts) (hAttnA : Cert.AttnA.Facts) (hAttnAIdeal : Cert.AttnAIdeal.Facts) (hAttnARefIdeal : Cert.AttnARefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAda : Cert.Ada.Facts) (hAdaIdeal : Cert.AdaIdeal.Facts) (hAdaRefIdeal : Cert.AdaRefIdeal.Facts) (hPre_finite_b : Cert.Pre_finite_b.Facts) (hPre_finite_a : Cert.Pre_finite_a.Facts),
    quiescent_AttnB (hAttnB := hAttnB)
    ∧ quiescent_AttnBIdeal (hAttnBIdeal := hAttnBIdeal)
    ∧ quiescent_AttnBIdeal_pre_finite_b (hAttnBIdeal := hAttnBIdeal) (hPre_finite_b := hPre_finite_b)
    ∧ quiescent_AttnBRefIdeal (hAttnBRefIdeal := hAttnBRefIdeal)
    ∧ quiescent_AttnBRefIdeal_pre_finite_b (hAttnBRefIdeal := hAttnBRefIdeal) (hPre_finite_b := hPre_finite_b)
    ∧ quiescent_AttnA (hAttnA := hAttnA)
    ∧ quiescent_AttnAIdeal (hAttnAIdeal := hAttnAIdeal)
    ∧ quiescent_AttnAIdeal_pre_finite_a (hAttnAIdeal := hAttnAIdeal) (hPre_finite_a := hPre_finite_a)
    ∧ quiescent_AttnARefIdeal (hAttnARefIdeal := hAttnARefIdeal)
    ∧ quiescent_AttnARefIdeal_pre_finite_a (hAttnARefIdeal := hAttnARefIdeal) (hPre_finite_a := hPre_finite_a)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ada (hAda := hAda)
    ∧ quiescent_AdaIdeal (hAdaIdeal := hAdaIdeal)
    ∧ quiescent_AdaRefIdeal (hAdaRefIdeal := hAdaRefIdeal)
    ∧ preserves_AttnB_AttnBIdeal
    ∧ algebraic_AttnBIdeal_AttnBRefIdeal_pre_finite_b (hAttnBIdeal := hAttnBIdeal) (hAttnBRefIdeal := hAttnBRefIdeal) (hPre_finite_b := hPre_finite_b)
    ∧ preserves_AttnA_AttnAIdeal
    ∧ algebraic_AttnAIdeal_AttnARefIdeal_pre_finite_a (hAttnAIdeal := hAttnAIdeal) (hAttnARefIdeal := hAttnARefIdeal) (hPre_finite_a := hPre_finite_a)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ada_AdaIdeal
    ∧ algebraic_AdaIdeal_AdaRefIdeal (hAdaIdeal := hAdaIdeal) (hAdaRefIdeal := hAdaRefIdeal)
-- ==== Pre_finite_a.lean ====
abbrev S32x2048x3328 : Shape := ⟨3, ![32, 2048, 3328]⟩
abbrev S1x8 : Shape := ⟨2, ![1, 8]⟩
abbrev S_ : Shape := ⟨0, ![]⟩

class Facts : Prop where
  bitsLt_bf16_f32 : FTy.bits .bf16 < FTy.bits .f32
  bcast_S_S32x2048x3328 : S_.BroadcastsInDim S32x2048x3328 (![] : Fin 0 → Fin S32x2048x3328.rank)
  bcast_S_S1x8 : S_.BroadcastsInDim S1x8 (![] : Fin 0 → Fin S1x8.rank)

variable [Facts]

def fn {F : FTy → Type} [FloatOps F] (main_arg0 : FVec F S32x2048x3328 .bf16) (main_arg1 : FVec F S1x8 .f32) : IVec S32x2048x3328 1 × IVec S1x8 1 :=
  let main_v0 : FVec F S32x2048x3328 .f32 := (extf .f32 · bitsLt_bf16_f32) main_arg0
  let main_v1 : FVec F S32x2048x3328 .f32 := Host.absf main_v0
  let main_cst : FVec F S_ .f32 := constant S_ .f32 0x7F800000#32
  let main_v2 : FVec F S32x2048x3328 .f32 := broadcastInDim S32x2048x3328 ![] bcast_S_S32x2048x3328 main_cst
  let main_v3 : IVec S32x2048x3328 1 := cmpf .olt main_v1 main_v2
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  (main_v3, main_v6)
-- ==== Pre_finite_b.lean ====
abbrev S32x2048x3328 : Shape := ⟨3, ![32, 2048, 3328]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32x2048x3328 : S_.BroadcastsInDim S32x2048x3328 (![] : Fin 0 → Fin S32x2048x3328.rank)

variable [Facts]

def fn {F : FTy → Type} [FloatOps F] (main_arg0 : FVec F S32x2048x3328 .bf16) (main_arg1 : FVec F S1x64 .f32) (main_arg2 : FVec F S1x64 .f32) (main_arg3 : FVec F S1x64 .f32) (main_arg4 : FVec F S1x64 .f32) (main_arg5 : FVec F S1x128 .f32) : IVec S32x2048x3328 1 :=
  let main_v0 : FVec F S32x2048x3328 .f32 := (extf .f32 · bitsLt_bf16_f32) main_arg0
  let main_v1 : FVec F S32x2048x3328 .f32 := Host.absf main_v0
  let main_cst : FVec F S_ .f32 := constant S_ .f32 0x7F800000#32
  let main_v2 : FVec F S32x2048x3328 .f32 := broadcastInDim S32x2048x3328 ![] bcast_S_S32x2048x3328 main_cst
  let main_v3 : IVec S32x2048x3328 1 := cmpf .olt main_v1 main_v2
  main_v3
-- ==== AttnB.lean ====
abbrev S32x2048x3328 : Shape := ⟨3, ![32, 2048, 3328]⟩
abbrev S1x64 : Shape := ⟨2, ![1, 64]⟩
abbrev S1x128 : Shape := ⟨2, ![1, 128]⟩
abbrev S4x64 : Shape := ⟨2, ![4, 64]⟩
abbrev S32x2048x512 : Shape := ⟨3, ![32, 2048, 512]⟩
abbrev S1x256x512 : Shape := ⟨3, ![1, 256, 512]⟩
abbrev S1x2048x512 : Shape := ⟨3, ![1, 2048, 512]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S32x2048x3328, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S4x64, .f32⟩
  | .hbm, ⟨7, _⟩ => ⟨S32x2048x512, .bf16⟩
  | .local _ .vmem, ⟨0, _⟩ => ⟨S4x64, .f32⟩
  | .local _ .vmem, ⟨1, _⟩ => ⟨S1x256x512, .bf16⟩
  | .local _ .vmem, ⟨2, _⟩ => ⟨S1x256x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x128, .f32⟩
  | .local _ .vmem, ⟨10, _⟩ => ⟨S1x256x512, .bf16⟩
  | .local _ .vmem, ⟨11, _⟩ => ⟨S1x256x512, .bf16⟩
  | _, _ => ⟨S32x2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnBRefIdeal.lean ====
abbrev S32x2048x3328 : Shape := ⟨3, ![32, 2048, 3328]⟩
abbrev S1x64 : Shape := ⟨2, ![1, 64]⟩
abbrev S1x128 : Shape := ⟨2, ![1, 128]⟩
abbrev S32x2048x512 : Shape := ⟨3, ![32, 2048, 512]⟩
abbrev S32x2048x4x2x64 : Shape := ⟨5, ![32, 2048, 4, 2, 64]⟩
abbrev S32x2048x4x128 : Shape := ⟨4, ![32, 2048, 4, 128]⟩
abbrev S32x4x2x2048x2048 : Shape := ⟨5, ![32, 4, 2, 2048, 2048]⟩
abbrev S_ : Shape := ⟨0, ![]⟩
abbrev S32x4x2x2048 : Shape := ⟨4, ![32, 4, 2, 2048]⟩
abbrev S32x4x2x2048x1 : Shape := ⟨5, ![32, 4, 2, 2048, 1]⟩
abbrev S64 : Shape := ⟨1, ![64]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S128 : Shape := ⟨1, ![128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x3328, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S32x2048x3328, .f32⟩
  | .hbm, ⟨7, _⟩ => ⟨S32x2048x512, .f32⟩
  | .hbm, ⟨8, _⟩ => ⟨S32x2048x4x2x64, .f32⟩
  | .hbm, ⟨9, _⟩ => ⟨S32x2048x512, .f32⟩
  | .hbm, ⟨10, _⟩ => ⟨S32x2048x4x2x64, .f32⟩
  | .hbm, ⟨11, _⟩ => ⟨S32x2048x512, .f32⟩
  | .hbm, ⟨12, _⟩ => ⟨S32x2048x4x128, .f32⟩
  | .hbm, ⟨13, _⟩ => ⟨S32x2048x512, .f32⟩
  | .hbm, ⟨14, _⟩ => ⟨S32x4x2x2048x2048, .f32⟩
  | .hbm, ⟨15, _⟩ => ⟨S_, .f32⟩
  | .hbm, ⟨16, _⟩ => ⟨S_, .f32⟩
  | .hbm, ⟨17, _⟩ => ⟨S32x4x2x2048x2048, .f32⟩
  | .hbm, ⟨18, _⟩ => ⟨S32x4x2x2048x2048, .f32⟩
  | .hbm, ⟨19, _⟩ => ⟨S_, .f32⟩
  | .hbm, ⟨20, _⟩ => ⟨S32x4x2x2048, .f32⟩
  | .hbm, ⟨21, _⟩ => ⟨S_, .f32⟩
  | .hbm, ⟨22, _⟩ => ⟨S32x4x2x2048, .f32⟩
  | .hbm, ⟨23, _⟩ => ⟨S32x4x2x2048, .f32⟩
  | .hbm, ⟨24, _⟩ => ⟨S32x4x2x2048x1, .f32⟩
  | .hbm, ⟨25, _⟩ => ⟨S32x4x2x2048x2048, .f32⟩
  | .hbm, ⟨26, _⟩ => ⟨S32x4x2x2048x2048, .f32⟩
  | .hbm, ⟨27, _⟩ => ⟨S32x4x2x2048x2048, .f32⟩
  | .hbm, ⟨28, _⟩ => ⟨S_, .f32⟩
  | .hbm, ⟨29, _⟩ => ⟨S32x4x2x2048, .f32⟩
  | .hbm, ⟨30, _⟩ => ⟨S32x4x2x2048x1, .f32⟩
  | .hbm, ⟨31, _⟩ => ⟨S32x4x2x2048x2048, .f32⟩
  | .hbm, ⟨32, _⟩ => ⟨S32x4x2x2048x2048, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x4x1x2048x2048, .f32⟩
  | .hbm, ⟨49, _⟩ => ⟨S32x4x2048x2048, .f32⟩
  | .hbm, ⟨50, _⟩ => ⟨S32x4x1x2048x2048, .f32⟩
  | .hbm, ⟨51, _⟩ => ⟨S32x4x2048x2048, .f32⟩
  | .hbm, ⟨52, _⟩ => ⟨S32x4x2048x2048, .f32⟩
  | .hbm, ⟨53, _⟩ => ⟨S32x4x2048x2048, .f32⟩
  | .hbm, ⟨54, _⟩ => ⟨S32x4x2048x2048, .f32⟩
  | .hbm, ⟨55, _⟩ => ⟨S32x4x128x2048, .f32⟩
  | .hbm, ⟨56, _⟩ => ⟨S32x2048x4x128, .f32⟩
  | .hbm, ⟨57, _⟩ => ⟨S128, .f32⟩
  | .hbm, ⟨58, _⟩ => ⟨S32x2048x4x128, .f32⟩
  | .hbm, ⟨59, _⟩ => ⟨S_, .f32⟩
  | .hbm, ⟨60, _⟩ => ⟨S32x2048x4, .f32⟩
  | .hbm, ⟨61, _⟩ => ⟨S32x2048x4x1, .f32⟩
  | .hbm, ⟨62, _⟩ => ⟨S_, .f32⟩
  | .hbm, ⟨63, _⟩ => ⟨S32x2048x4x1, .f32⟩
  | .hbm, ⟨64, _⟩ => ⟨S32x2048x4x1, .f32⟩
  | .hbm, ⟨65, _⟩ => ⟨S_, .f32⟩
  | .hbm, ⟨66, _⟩ => ⟨S32x2048x4x1, .f32⟩
  | .hbm, ⟨67, _⟩ => ⟨S32x2048x4x1, .f32⟩
  | .hbm, ⟨68, _⟩ => ⟨S32x2048x4x1, .f32⟩
  | .hbm, ⟨69, _⟩ => ⟨S32x2048x4x128, .f32⟩
  | .hbm, ⟨70, _⟩ => ⟨S32x2048x4x128, .f32⟩
  | .hbm, ⟨71, _⟩ => ⟨S1x1x1x128, .f32⟩
  | .hbm, ⟨72, _⟩ => ⟨S32x2048x4x128, .f32⟩
  | .hbm, ⟨73, _⟩ => ⟨S32x2048x4x128, .f32⟩
  | .hbm, ⟨74, _⟩ => ⟨S_, .f32⟩
  | .hbm, ⟨75, _⟩ => ⟨S32x2048x4x128, .f32⟩
  | .hbm, ⟨76, _⟩ => ⟨S32x2048x4x128, .f32⟩
  | .hbm, ⟨77, _⟩ => ⟨S32x2048x512, .f32⟩
  | .hbm, ⟨78, _⟩ => ⟨S32x2048x512, .f32⟩
  | .hbm, ⟨79, _⟩ => ⟨S32x2048x512, .bf16⟩
  | _, _ => ⟨S32x2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== AttnA.lean ====
abbrev S32x2048x3328 : Shape := ⟨3, ![32, 2048, 3328]⟩
abbrev S1x8 : Shape := ⟨2, ![1, 8]⟩
abbrev S8 : Shape := ⟨1, ![8]⟩
abbrev S32x2048x512 : Shape := ⟨3, ![32, 2048, 512]⟩
abbrev S1x128x512 : Shape := ⟨3, ![1, 128, 512]⟩
abbrev S1x2048x128 : Shape := ⟨3, ![1, 2048, 128]⟩
abbrev S1x384x128 : Shape := ⟨3, ![1, 384, 128]⟩
abbrev S384x128 : Shape := ⟨2, ![384, 128]⟩
abbrev S256x384 : Shape := ⟨2, ![256, 384]⟩
abbrev S128x128 : Shape := ⟨2, ![128, 128]⟩
abbrev S1x128x128 : Shape := ⟨3, ![1, 128, 128]⟩
abbrev S256x128 : Shape := ⟨2, ![256, 128]⟩
abbrev S256x1 : Shape := ⟨2, ![256, 1]⟩
abbrev S1 : Shape := ⟨1, ![1]⟩
abbrev S256 : Shape := ⟨1, ![256]⟩

abbrev nBuf : Space → Nat
  | .hbm => 4
  | .vmem => 10
  | .smem => 1
  | _ => 0

abbrev bufTy : (tb : Table) → Fin (tcTables nBuf tb) → BufTy
  | .hbm, ⟨0, _⟩ => ⟨S32x2048x3328, .bf16⟩
  | .hbm, ⟨1, _⟩ => ⟨S1x8, .f32⟩
  | .hbm, ⟨2, _⟩ => ⟨S8, .f32⟩
  | .hbm, ⟨3, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .smem, ⟨0, _⟩ => ⟨S8, .f32⟩
  | _, _ => ⟨S32x2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 3 → Nat :=
  let c0 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v5 : Index := Scalar.indexCast v4
  let c0_1 : Index := 0#32
  ![0, v5.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  ![arg0.toNat, c0_i32.toNat, c24_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c25_i32 : BitVec 32 := 25#32
  let c0_i32_0 : BitVec 32 := 0#32
  ![arg0.toNat, c0_i32.toNat, c25_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnAIdeal.lean ====
variable {F : FTy → Type} [FloatOps F] [Named F]
def κ : String → Option EReal := fun
  | "log2e" => some (((Real.log 2)⁻¹ : ℝ) : EReal)
  | "mask" => some ⊥
  | _ => none
-- ==== AttnARefIdeal.lean ====
abbrev S32x2048x3328 : Shape := ⟨3, ![32, 2048, 3328]⟩
abbrev S1x8 : Shape := ⟨2, ![1, 8]⟩
abbrev S32x2048x512 : Shape := ⟨3, ![32, 2048, 512]⟩
abbrev S32x2048x2x4x64 : Shape := ⟨5, ![32, 2048, 2, 4, 64]⟩
abbrev S32x2048x128 : Shape := ⟨3, ![32, 2048, 128]⟩
abbrev S32x2048x2x64 : Shape := ⟨4, ![32, 2048, 2, 64]⟩
abbrev S8 : Shape := ⟨1, ![8]⟩
abbrev S1x2x4x1x1 : Shape := ⟨5, ![1, 2, 4, 1, 1]⟩
abbrev S32x2x2048x2048x4 : Shape := ⟨5, ![32, 2, 2048, 2048, 4]⟩
abbrev S32x2x4x2048x2048 : Shape := ⟨5, ![32, 2, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x3328, .bf16⟩
  | .hbm, ⟨1, _⟩ => ⟨S1x8, .f32⟩
  | .hbm, ⟨2, _⟩ => ⟨S32x2048x3328, .f32⟩
  | .hbm, ⟨3, _⟩ => ⟨S32x2048x512, .f32⟩
  | .hbm, ⟨4, _⟩ => ⟨S32x2048x2x4x64, .f32⟩
  | .hbm, ⟨5, _⟩ => ⟨S32x2048x512, .f32⟩
  | .hbm, ⟨6, _⟩ => ⟨S32x2048x128, .f32⟩
  | .hbm, ⟨7, _⟩ => ⟨S32x2048x2x64, .f32⟩
  | .hbm, ⟨8, _⟩ => ⟨S32x2048x128, .f32⟩
  | .hbm, ⟨9, _⟩ => ⟨S32x2048x2x64, .f32⟩
  | .hbm, ⟨10, _⟩ => ⟨S8, .f32⟩
  | .hbm, ⟨11, _⟩ => ⟨S1x2x4x1x1, .f32⟩
  | .hbm, ⟨12, _⟩ => ⟨S32x2x2048x2048x4, .f32⟩
  | .hbm, ⟨13, _⟩ => ⟨S32x2x4x2048x2048, .f32⟩
  | .hbm, ⟨14, _⟩ => ⟨S_, .f32⟩
  | .hbm, ⟨15, _⟩ => ⟨S_, .f32⟩
  | .hbm, ⟨16, _⟩ => ⟨S32x2x4x2048x2048, .f32⟩
  | .hbm, ⟨17, _⟩ => ⟨S32x2x4x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S32x2x4x2048x2048, .i1⟩
  | .hbm, ⟨31, _⟩ => ⟨S32x2x4x2048x2048, .f32⟩
  | .hbm, ⟨32, _⟩ => ⟨S32x2x4x2048x2048, .f32⟩
  | .hbm, ⟨33, _⟩ => ⟨S_, .f32⟩
  | .hbm, ⟨34, _⟩ => ⟨S32x2x4x2048, .f32⟩
  | .hbm, ⟨35, _⟩ => ⟨S32x2x4x2048x1, .f32⟩
  | .hbm, ⟨36, _⟩ => ⟨S32x2x4x2048x1, .f32⟩
  | .hbm, ⟨37, _⟩ => ⟨S32x2x4x2048x1, .f32⟩
  | .hbm, ⟨38, _⟩ => ⟨S32x2x4x2048x2048, .f32⟩
  | .hbm, ⟨39, _⟩ => ⟨S32x2x4x2048x2048, .f32⟩
  | .hbm, ⟨40, _⟩ => ⟨S32x2x4x2048x2048, .f32⟩
  | .hbm, ⟨41, _⟩ => ⟨S_, .f32⟩
  | .hbm, ⟨42, _⟩ => ⟨S32x2x4x2048, .f32⟩
  | .hbm, ⟨43, _⟩ => ⟨S32x2x4x2048x1, .f32⟩
  | .hbm, ⟨44, _⟩ => ⟨S32x2x4x2048x1, .f32⟩
  | .hbm, ⟨45, _⟩ => ⟨S32x2x4x2048x1, .f32⟩
  | .hbm, ⟨46, _⟩ => ⟨S32x2x4x2048x1, .f32⟩
  | .hbm, ⟨47, _⟩ => ⟨S32x2x4x2048x1, .f32⟩
  | .hbm, ⟨48, _⟩ => ⟨S32x2x4x2048x2048, .f32⟩
  | .hbm, ⟨49, _⟩ => ⟨S32x2x4x2048x2048, .f32⟩
  | .hbm, ⟨50, _⟩ => ⟨S32x2x64x4x2048, .f32⟩
  | .hbm, ⟨51, _⟩ => ⟨S32x2048x2x4x64, .f32⟩
  | .hbm, ⟨52, _⟩ => ⟨S32x2048x512, .f32⟩
  | .hbm, ⟨53, _⟩ => ⟨S32x2048x512, .f32⟩
  | .hbm, ⟨54, _⟩ => ⟨S32x2048x512, .bf16⟩
  | _, _ => ⟨S32x2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== InProj.lean ====
abbrev S32x2048x1024 : Shape := ⟨3, ![32, 2048, 1024]⟩
abbrev S32x2048 : Shape := ⟨2, ![32, 2048]⟩
abbrev S32x3072 : Shape := ⟨2, ![32, 3072]⟩
abbrev S1x1024 : Shape := ⟨2, ![1, 1024]⟩
abbrev S1x1024x3328 : Shape := ⟨3, ![1, 1024, 3328]⟩
abbrev S1x64 : Shape := ⟨2, ![1, 64]⟩
abbrev S256x256 : Shape := ⟨2, ![256, 256]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S3328 : Shape := ⟨1, ![3328]⟩
abbrev S8x64 : Shape := ⟨2, ![8, 64]⟩
abbrev S512 : Shape := ⟨1, ![512]⟩
abbrev S1 : Shape := ⟨1, ![1]⟩
abbrev S2x64 : Shape := ⟨2, ![2, 64]⟩
abbrev S1x3328 : Shape := ⟨2, ![1, 3328]⟩
abbrev S32x3x1024 : Shape := ⟨3, ![32, 3, 1024]⟩
abbrev S32x2048x1 : Shape := ⟨3, ![32, 2048, 1]⟩
abbrev S1024x3328 : Shape := ⟨2, ![1024, 3328]⟩
abbrev S32x2048x3328 : Shape := ⟨3, ![32, 2048, 3328]⟩
abbrev S1x512x1024 : Shape := ⟨3, ![1, 512, 1024]⟩
abbrev S1x512x1 : Shape := ⟨3, ![1, 512, 1]⟩
abbrev S1x3x1024 : Shape := ⟨3, ![1, 3, 1024]⟩
abbrev S1x512x3328 : Shape := ⟨3, ![1, 512, 3328]⟩
abbrev S512x1024 : Shape := ⟨2, ![512, 1024]⟩
abbrev S512x1 : Shape := ⟨2, ![512, 1]⟩
abbrev S1x1x1024 : Shape := ⟨3, ![1, 1, 1024]⟩
abbrev S512x128 : Shape := ⟨2, ![512, 128]⟩
abbrev S1024x256 : Shape := ⟨2, ![1024, 256]⟩
abbrev S512x256 : Shape := ⟨2, ![512, 256]⟩
abbrev S1x256 : Shape := ⟨2, ![1, 256]⟩
abbrev S1x512x128 : Shape := ⟨3, ![1, 512, 128]⟩
abbrev S1024x128 : Shape := ⟨2, ![1024, 128]⟩
abbrev S128x128 : Shape := ⟨2, ![128, 128]⟩
abbrev S1x512x256 : Shape := ⟨3, ![1, 512, 256]⟩

abbrev nBuf : Space → Nat
  | .hbm => 72
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S32x3072, .f32⟩
  | .hbm, ⟨3, _⟩ => ⟨S1x1024, .f32⟩
  | .hbm, ⟨4, _⟩ => ⟨S1x1024x3328, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S256x256, .bf16⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S1x32, .f32⟩
  | .hbm, ⟨27, _⟩ => ⟨S4x32, .f32⟩
  | .hbm, ⟨28, _⟩ => ⟨S128, .f32⟩
  | .hbm, ⟨29, _⟩ => ⟨S1x128, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S3328, .f32⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S1, .i32⟩
  | .hbm, ⟨44, _⟩ => ⟨S3328, .f32⟩
  | .hbm, ⟨45, _⟩ => ⟨S1x64, .f32⟩
  | .hbm, ⟨46, _⟩ => ⟨S2x64, .f32⟩
  | .hbm, ⟨47, _⟩ => ⟨S128, .f32⟩
  | .hbm, ⟨48, _⟩ => ⟨S_, .i32⟩
  | .hbm, ⟨49, _⟩ => ⟨S1, .i32⟩
  | .hbm, ⟨50, _⟩ => ⟨S3328, .f32⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .i32⟩
  | .hbm, ⟨58, _⟩ => ⟨S1, .i32⟩
  | .hbm, ⟨59, _⟩ => ⟨S3328, .f32⟩
  | .hbm, ⟨60, _⟩ => ⟨S1x64, .f32⟩
  | .hbm, ⟨61, _⟩ => ⟨S8x64, .f32⟩
  | .hbm, ⟨62, _⟩ => ⟨S512, .f32⟩
  | .hbm, ⟨63, _⟩ => ⟨S_, .i32⟩
  | .hbm, ⟨64, _⟩ => ⟨S1, .i32⟩
  | .hbm, ⟨65, _⟩ => ⟨S3328, .f32⟩
  | .hbm, ⟨66, _⟩ => ⟨S1x3328, .f32⟩
  | .hbm, ⟨67, _⟩ => ⟨S32x3x1024, .f32⟩
  | .hbm, ⟨68, _⟩ => ⟨S32x2048x1, .i32⟩
  | .hbm, ⟨69, _⟩ => ⟨S1024x3328, .f32⟩
  | .hbm, ⟨70, _⟩ => ⟨S1024x3328, .bf16⟩
  | .hbm, ⟨71, _⟩ => ⟨S32x2048x3328, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1024x3328, .bf16⟩
  | .local _ .vmem, ⟨8, _⟩ => ⟨S1x128, .f32⟩
  | .local _ .vmem, ⟨9, _⟩ => ⟨S1x3328, .f32⟩
  | .local _ .vmem, ⟨10, _⟩ => ⟨S256x256, .bf16⟩
  | .local _ .vmem, ⟨11, _⟩ => ⟨S1x512x3328, .bf16⟩
  | .local _ .vmem, ⟨12, _⟩ => ⟨S1x512x3328, .bf16⟩
  | .local _ .vmem, ⟨13, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3328 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x3328 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjRefIdeal.lean ====
abbrev S32x2048x1024 : Shape := ⟨3, ![32, 2048, 1024]⟩
abbrev S32x2048 : Shape := ⟨2, ![32, 2048]⟩
abbrev S32x3072 : Shape := ⟨2, ![32, 3072]⟩
abbrev S1x1024 : Shape := ⟨2, ![1, 1024]⟩
abbrev S1x1024x3328 : Shape := ⟨3, ![1, 1024, 3328]⟩
abbrev S1x64 : Shape := ⟨2, ![1, 64]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S32x2048x64 : Shape := ⟨3, ![32, 2048, 64]⟩
abbrev S32x1024 : Shape := ⟨2, ![32, 1024]⟩
abbrev S1024 : Shape := ⟨1, ![1024]⟩
abbrev S1x1x1024 : Shape := ⟨3, ![1, 1, 1024]⟩
abbrev S32x1x1024 : Shape := ⟨3, ![32, 1, 1024]⟩
abbrev S1024x3328 : Shape := ⟨2, ![1024, 3328]⟩
abbrev S32x2048x3328 : Shape := ⟨3, ![32, 2048, 3328]⟩
abbrev S32x2048x512 : Shape := ⟨3, ![32, 2048, 512]⟩
abbrev S32x2048x128 : Shape := ⟨3, ![32, 2048, 128]⟩
abbrev S32x2048x8x64 : Shape := ⟨4, ![32, 2048, 8, 64]⟩
abbrev S64 : Shape := ⟨1, ![64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x8x32 : Shape := ⟨4, ![32, 2048, 8, 32]⟩
abbrev S32x2048x1x64 : Shape := ⟨4, ![32, 2048, 1, 64]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x32 : Shape := ⟨4, ![32, 2048, 2, 32]⟩

abbrev nBuf : Space → Nat
  | .hbm => 219
  | .vmem => 0
  | .smem => 0
  | _ => 0

abbrev hbmTy0_0 (i : Nat) : BufTy := match i % 128 with
  | 0 => ⟨S32x2048x1024, .f32⟩
  | 1 => ⟨S32x2048, .i32⟩
  | 2 => ⟨S32x3072, .f32⟩
  | 3 => ⟨S1x1024, .f32⟩
  | 4 => ⟨S1x1024x3328, .f32⟩
  | 5 => ⟨S1x64, .f32⟩
  | 6 => ⟨S1x64, .f32⟩
  | 7 => ⟨S1x64, .f32⟩
  | 8 => ⟨S1x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S32x2048, .f32⟩
  | 26 => ⟨S32x2048x1, .f32⟩
  | 27 => ⟨S1x1x32, .f32⟩
  | 28 => ⟨S32x2048x32, .f32⟩
  | 29 => ⟨S32x2048x32, .f32⟩
  | 30 => ⟨S32x2048x32, .f32⟩
  | 31 => ⟨S32x2048x64, .f32⟩
  | 32 => ⟨S32x2048x64, .f32⟩
  | 33 => ⟨S32x2048x64, .f32⟩
  | 34 => ⟨S32x1024, .f32⟩
  | 35 => ⟨S32x1024, .f32⟩
  | 36 => ⟨S32x1024, .f32⟩
  | 37 => ⟨S1024, .f32⟩
  | 38 => ⟨S32x2048x1024, .f32⟩
  | 39 => ⟨S_, .f32⟩
  | 40 => ⟨S32x2048, .f32⟩
  | 41 => ⟨S32x2048x1, .f32⟩
  | 42 => ⟨S_, .f32⟩
  | 43 => ⟨S32x2048x1, .f32⟩
  | 44 => ⟨S32x2048x1, .f32⟩
  | 45 => ⟨S_, .f32⟩
  | 46 => ⟨S32x2048x1, .f32⟩
  | 47 => ⟨S32x2048x1, .f32⟩
  | 48 => ⟨S32x2048x1, .f32⟩
  | 49 => ⟨S32x2048x1024, .f32⟩
  | 50 => ⟨S32x2048x1024, .f32⟩
  | 51 => ⟨S1x1x1024, .f32⟩
  | 52 => ⟨S32x2048x1024, .f32⟩
  | 53 => ⟨S32x2048x1024, .f32⟩
  | 54 => ⟨S32x1x1024, .f32⟩
  | 55 => ⟨S_, .f32⟩
  | 56 => ⟨S32x1x1024, .f32⟩
  | 57 => ⟨S32x1x1024, .f32⟩
  | 58 => ⟨S32x2048x1024, .f32⟩
  | 59 => ⟨S32x2048x1024, .f32⟩
  | 60 => ⟨S32x1x1024, .f32⟩
  | 61 => ⟨S32x2048x1024, .f32⟩
  | 62 => ⟨S32x2048x1024, .f32⟩
  | 63 => ⟨S1024x3328, .f32⟩
  | 64 => ⟨S32x2048x3328, .f32⟩
  | 65 => ⟨S32x2048x512, .f32⟩
  | 66 => ⟨S32x2048x128, .f32⟩
  | 67 => ⟨S32x2048x128, .f32⟩
  | 68 => ⟨S32x2048x512, .f32⟩
  | 69 => ⟨S32x2048x512, .f32⟩
  | 70 => ⟨S32x2048x512, .f32⟩
  | 71 => ⟨S32x2048x512, .f32⟩
  | 72 => ⟨S32x2048x512, .f32⟩
  | 73 => ⟨S32x2048x8x64, .f32⟩
  | 74 => ⟨S64, .f32⟩
  | 75 => ⟨S32x2048x8x64, .f32⟩
  | 76 => ⟨S_, .f32⟩
  | 77 => ⟨S32x2048x8, .f32⟩
  | 78 => ⟨S32x2048x8x1, .f32⟩
  | 79 => ⟨S_, .f32⟩
  | 80 => ⟨S32x2048x8x1, .f32⟩
  | 81 => ⟨S32x2048x8x1, .f32⟩
  | 82 => ⟨S_, .f32⟩
  | 83 => ⟨S32x2048x8x1, .f32⟩
  | 84 => ⟨S32x2048x8x1, .f32⟩
  | 85 => ⟨S32x2048x8x1, .f32⟩
  | 86 => ⟨S32x2048x8x64, .f32⟩
  | 87 => ⟨S32x2048x8x64, .f32⟩
  | 88 => ⟨S1x1x1x64, .f32⟩
  | 89 => ⟨S32x2048x8x64, .f32⟩
  | 90 => ⟨S32x2048x8x64, .f32⟩
  | 91 => ⟨S32x2048x8x32, .f32⟩
  | 92 => ⟨S32x2048x8x32, .f32⟩
  | 93 => ⟨S32x2048x8x32, .f32⟩
  | 94 => ⟨S32x2048x8x64, .f32⟩
  | 95 => ⟨S32x2048x1x64, .f32⟩
  | 96 => ⟨S32x2048x8x64, .f32⟩
  | 97 => ⟨S32x2048x8x64, .f32⟩
  | 98 => ⟨S32x2048x1x64, .f32⟩
  | 99 => ⟨S32x2048x8x64, .f32⟩
  | 100 => ⟨S32x2048x8x64, .f32⟩
  | 101 => ⟨S32x2048x8x64, .f32⟩
  | 102 => ⟨S32x2048x512, .f32⟩
  | 103 => ⟨S32x2048x2x64, .f32⟩
  | 104 => ⟨S64, .f32⟩
  | 105 => ⟨S32x2048x2x64, .f32⟩
  | 106 => ⟨S_, .f32⟩
  | 107 => ⟨S32x2048x2, .f32⟩
  | 108 => ⟨S32x2048x2x1, .f32⟩
  | 109 => ⟨S_, .f32⟩
  | 110 => ⟨S32x2048x2x1, .f32⟩
  | 111 => ⟨S32x2048x2x1, .f32⟩
  | 112 => ⟨S_, .f32⟩
  | 113 => ⟨S32x2048x2x1, .f32⟩
  | 114 => ⟨S32x2048x2x1, .f32⟩
  | 115 => ⟨S32x2048x2x1, .f32⟩
  | 116 => ⟨S32x2048x2x64, .f32⟩
  | 117 => ⟨S32x2048x2x64, .f32⟩
  | 118 => ⟨S1x1x1x64, .f32⟩
  | 119 => ⟨S32x2048x2x64, .f32⟩
  | 120 => ⟨S32x2048x2x64, .f32⟩
  | 121 => ⟨S32x2048x2x32, .f32⟩
  | 122 => ⟨S32x2048x2x32, .f32⟩
  | 123 => ⟨S32x2048x2x32, .f32⟩
  | 124 => ⟨S32x2048x2x64, .f32⟩
  | 125 => ⟨S32x2048x1x64, .f32⟩
  | 126 => ⟨S32x2048x2x64, .f32⟩
  | 127 => ⟨S32x2048x2x64, .f32⟩
  | _ => ⟨S32x2048x1024, .f32⟩

abbrev hbmTy0_1 (i : Nat) : BufTy := match i % 128 with
  | 0 => ⟨S32x2048x1x64, .f32⟩
  | 1 => ⟨S32x2048x2x64, .f32⟩
  | 2 => ⟨S32x2048x2x64, .f32⟩
  | 3 => ⟨S32x2048x2x64, .f32⟩
  | 4 => ⟨S32x2048x128, .f32⟩
  | 5 => ⟨S32x2048x8x64, .f32⟩
  | 6 => ⟨S64, .f32⟩
  | 7 => ⟨S32x2048x8x64, .f32⟩
  | 8 => ⟨S_, .f32⟩
  | 9 => ⟨S32x2048x8, .f32⟩
  | 10 => ⟨S32x2048x8x1, .f32⟩
  | 11 => ⟨S_, .f32⟩
  | 12 => ⟨S32x2048x8x1, .f32⟩
  | 13 => ⟨S32x2048x8x1, .f32⟩
  | 14 => ⟨S_, .f32⟩
  | 15 => ⟨S32x2048x8x1, .f32⟩
  | 16 => ⟨S32x2048x8x1, .f32⟩
  | 17 => ⟨S32x2048x8x1, .f32⟩
  | 18 => ⟨S32x2048x8x64, .f32⟩
  | 19 => ⟨S32x2048x8x64, .f32⟩
  | 20 => ⟨S1x1x1x64, .f32⟩
  | 21 => ⟨S32x2048x8x64, .f32⟩
  | 22 => ⟨S32x2048x8x64, .f32⟩
  | 23 => ⟨S32x2048x8x32, .f32⟩
  | 24 => ⟨S32x2048x8x32, .f32⟩
  | 25 => ⟨S32x2048x8x32, .f32⟩
  | 26 => ⟨S32x2048x8x64, .f32⟩
  | 27 => ⟨S32x2048x1x64, .f32⟩
  | 28 => ⟨S32x2048x8x64, .f32⟩
  | 29 => ⟨S32x2048x8x64, .f32⟩
  | 30 => ⟨S32x2048x1x64, .f32⟩
  | 31 => ⟨S32x2048x8x64, .f32⟩
  | 32 => ⟨S32x2048x8x64, .f32⟩
  | 33 => ⟨S32x2048x8x64, .f32⟩
  | 34 => ⟨S32x2048x512, .f32⟩
  | 35 => ⟨S32x2048x8x64, .f32⟩
  | 36 => ⟨S64, .f32⟩
  | 37 => ⟨S32x2048x8x64, .f32⟩
  | 38 => ⟨S_, .f32⟩
  | 39 => ⟨S32x2048x8, .f32⟩
  | 40 => ⟨S32x2048x8x1, .f32⟩
  | 41 => ⟨S_, .f32⟩
  | 42 => ⟨S32x2048x8x1, .f32⟩
  | 43 => ⟨S32x2048x8x1, .f32⟩
  | 44 => ⟨S_, .f32⟩
  | 45 => ⟨S32x2048x8x1, .f32⟩
  | 46 => ⟨S32x2048x8x1, .f32⟩
  | 47 => ⟨S32x2048x8x1, .f32⟩
  | 48 => ⟨S32x2048x8x64, .f32⟩
  | 49 => ⟨S32x2048x8x64, .f32⟩
  | 50 => ⟨S1x1x1x64, .f32⟩
  | 51 => ⟨S32x2048x8x64, .f32⟩
  | 52 => ⟨S32x2048x8x64, .f32⟩
  | 53 => ⟨S32x2048x8x32, .f32⟩
  | 54 => ⟨S32x2048x8x32, .f32⟩
  | 55 => ⟨S32x2048x8x32, .f32⟩
  | 56 => ⟨S32x2048x8x64, .f32⟩
  | 57 => ⟨S32x2048x1x64, .f32⟩
  | 58 => ⟨S32x2048x8x64, .f32⟩
  | 59 => ⟨S32x2048x8x64, .f32⟩
  | 60 => ⟨S32x2048x1x64, .f32⟩
  | 61 => ⟨S32x2048x8x64, .f32⟩
  | 62 => ⟨S32x2048x8x64, .f32⟩
  | 63 => ⟨S32x2048x8x64, .f32⟩
  | 64 => ⟨S32x2048x512, .f32⟩
  | 65 => ⟨S_, .f32⟩
  | 66 => ⟨S32x2048x512, .f32⟩
  | 67 => ⟨S32x2048x512, .f32⟩
  | 68 => ⟨S32x2048x512, .f32⟩
  | 69 => ⟨S32x2048x512, .f32⟩
  | 70 => ⟨S_, .f32⟩
  | 71 => ⟨S32x2048x512, .f32⟩
  | 72 => ⟨S32x2048x512, .f32⟩
  | 73 => ⟨S_, .f32⟩
  | 74 => ⟨S32x2048x512, .f32⟩
  | 75 => ⟨S32x2048x512, .f32⟩
  | 76 => ⟨S32x2048x512, .f32⟩
  | 77 => ⟨S_, .f32⟩
  | 78 => ⟨S32x2048x512, .f32⟩
  | 79 => ⟨S32x2048x512, .f32⟩
  | 80 => ⟨S32x2048x512, .f32⟩
  | 81 => ⟨S32x2048x512, .f32⟩
  | 82 => ⟨S_, .f32⟩
  | 83 => ⟨S32x2048x512, .f32⟩
  | 84 => ⟨S32x2048x512, .f32⟩
  | 85 => ⟨S_, .f32⟩
  | 86 => ⟨S32x2048x512, .f32⟩
  | 87 => ⟨S32x2048x512, .f32⟩
  | 88 => ⟨S32x2048x512, .f32⟩
  | 89 => ⟨S32x2048x3328, .f32⟩
  | 90 => ⟨S32x2048x3328, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_11 : Ref sig .tc := ⟨.hbm, 106, rfl⟩
abbrev main_v85 : Ref sig .tc := ⟨.hbm, 107, rfl⟩
abbrev main_v86 : Ref sig .tc := ⟨.hbm, 108, rfl⟩
abbrev main_cst_12 : Ref sig .tc := ⟨.hbm, 109, rfl⟩
abbrev main_v87 : Ref sig .tc := ⟨.hbm, 110, rfl⟩
abbrev main_v88 : Ref sig .tc := ⟨.hbm, 111, rfl⟩
abbrev main_cst_13 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_14 : Ref sig .tc := ⟨.hbm, 136, rfl⟩
abbrev main_v112 : Ref sig .tc := ⟨.hbm, 137, rfl⟩
abbrev main_v113 : Ref sig .tc := ⟨.hbm, 138, rfl⟩
abbrev main_cst_15 : Ref sig .tc := ⟨.hbm, 139, rfl⟩
abbrev main_v114 : Ref sig .tc := ⟨.hbm, 140, rfl⟩
abbrev main_v115 : Ref sig .tc := ⟨.hbm, 141, rfl⟩
abbrev main_cst_16 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_17 : Ref sig .tc := ⟨.hbm, 166, rfl⟩
abbrev main_v139 : Ref sig .tc := ⟨.hbm, 167, rfl⟩
abbrev main_v140 : Ref sig .tc := ⟨.hbm, 168, rfl⟩
abbrev main_cst_18 : Ref sig .tc := ⟨.hbm, 169, rfl⟩
abbrev main_v141 : Ref sig .tc := ⟨.hbm, 170, rfl⟩
abbrev main_v142 : Ref sig .tc := ⟨.hbm, 171, rfl⟩
abbrev main_cst_19 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_cst_20 : Ref sig .tc := ⟨.hbm, 193, rfl⟩
abbrev main_v163 : Ref sig .tc := ⟨.hbm, 194, rfl⟩
abbrev main_v164 : Ref sig .tc := ⟨.hbm, 195, rfl⟩
abbrev main_call0_v0 : Ref sig .tc := ⟨.hbm, 196, rfl⟩
abbrev main_call0_v1 : Ref sig .tc := ⟨.hbm, 197, rfl⟩
abbrev main_call0_cst : Ref sig .tc := ⟨.hbm, 198, rfl⟩
abbrev main_call0_v2 : Ref sig .tc := ⟨.hbm, 199, rfl⟩
abbrev main_call0_v3 : Ref sig .tc := ⟨.hbm, 200, rfl⟩
abbrev main_call0_cst_0 : Ref sig .tc := ⟨.hbm, 201, rfl⟩
abbrev main_call0_v4 : Ref sig .tc := ⟨.hbm, 202, rfl⟩
abbrev main_call0_v5 : Ref sig .tc := ⟨.hbm, 203, rfl⟩
abbrev main_v165 : Ref sig .tc := ⟨.hbm, 204, rfl⟩
abbrev main_cst_21 : Ref sig .tc := ⟨.hbm, 205, rfl⟩
abbrev main_v166 : Ref sig .tc := ⟨.hbm, 206, rfl⟩
abbrev main_v167 : Ref sig .tc := ⟨.hbm, 207, rfl⟩
abbrev main_call1_v0 : Ref sig .tc := ⟨.hbm, 208, rfl⟩
abbrev main_call1_v1 : Ref sig .tc := ⟨.hbm, 209, rfl⟩
abbrev main_call1_cst : Ref sig .tc := ⟨.hbm, 210, rfl⟩
abbrev main_call1_v2 : Ref sig .tc := ⟨.hbm, 211, rfl⟩
abbrev main_call1_v3 : Ref sig .tc := ⟨.hbm, 212, rfl⟩
abbrev main_call1_cst_0 : Ref sig .tc := ⟨.hbm, 213, rfl⟩
abbrev main_call1_v4 : Ref sig .tc := ⟨.hbm, 214, rfl⟩
abbrev main_call1_v5 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩

abbrev nD : Nat := 1
abbrev τ : Topo := Topo.v7x

variable {F : FTy → Type} [FloatOps F]
-- ==== OutProj.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S32x3072 : Shape := ⟨2, ![32, 3072]⟩
abbrev S1024x1024 : Shape := ⟨2, ![1024, 1024]⟩
abbrev S32x3x1024 : Shape := ⟨3, ![32, 3, 1024]⟩
abbrev S1x512x1024 : Shape := ⟨3, ![1, 512, 1024]⟩
abbrev S1x512x512 : Shape := ⟨3, ![1, 512, 512]⟩
abbrev S1x3x1024 : Shape := ⟨3, ![1, 3, 1024]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S32x3072, .f32⟩
  | .hbm, ⟨5, _⟩ => ⟨S1024x1024, .f32⟩
  | .hbm, ⟨6, _⟩ => ⟨S1024x1024, .bf16⟩
  | .hbm, ⟨7, _⟩ => ⟨S32x3x1024, .f32⟩
  | .hbm, ⟨8, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x3x1024, .f32⟩
  | .local _ .vmem, ⟨8, _⟩ => ⟨S1x3x1024, .f32⟩
  | .local _ .vmem, ⟨9, _⟩ => ⟨S1x512x1024, .f32⟩
  | .local _ .vmem, ⟨10, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S32x3072 : Shape := ⟨2, ![32, 3072]⟩
abbrev S1024x1024 : Shape := ⟨2, ![1024, 1024]⟩
abbrev S32x1024 : Shape := ⟨2, ![32, 1024]⟩
abbrev S32x1x1024 : Shape := ⟨3, ![32, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S32x3072, .f32⟩
  | .hbm, ⟨5, _⟩ => ⟨S32x2048x1024, .bf16⟩
  | .hbm, ⟨6, _⟩ => ⟨S32x2048x1024, .f32⟩
  | .hbm, ⟨7, _⟩ => ⟨S1024x1024, .f32⟩
  | .hbm, ⟨8, _⟩ => ⟨S32x2048x1024, .f32⟩
  | .hbm, ⟨9, _⟩ => ⟨S32x1024, .f32⟩
  | .hbm, ⟨10, _⟩ => ⟨S32x1x1024, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Ada.lean ====
abbrev S32x1024 : Shape := ⟨2, ![32, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S32x3072 : Shape := ⟨2, ![32, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S32x3072, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S32x1024 : Shape := ⟨2, ![32, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S32x3072 : Shape := ⟨2, ![32, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x3072, .f32⟩
  | .hbm, ⟨2, _⟩ => ⟨S1x3072, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x3072, .f32⟩
  | .hbm, ⟨13, _⟩ => ⟨S32x3072, .f32⟩
  | .hbm, ⟨14, _⟩ => ⟨S3072, .f32⟩
  | .hbm, ⟨15, _⟩ => ⟨S1x3072, .f32⟩
  | .hbm, ⟨16, _⟩ => ⟨S32x3072, .f32⟩
  | .hbm, ⟨17, _⟩ => ⟨S32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Soft.lean ====
/-
  Extended-real facts the attention calls share: sums and scores of real entries are real, the maximum of a row is
  one of its entries, a power of two is an exponential of the scaled exponent, and a softmax written with powers of two
  and a reciprocal is the softmax written with exponentials and a quotient.
-/
module

public import Idealize.ShloMosaic.Lib.Pointwise

@[expose] public section

noncomputable section

namespace Cert.Soft

open Idealize.ShloMosaic
open scoped BigOperators

/-- An extended real that is a real number. -/
def IsReal (x : EReal) : Prop := ∃ r : ℝ, x = (r : EReal)

/-- The sum of reals, read in the extended reals, is the real sum. -/
theorem coe_sum {n : ℕ} (f : Fin n → ℝ) : (∑ k, (f k : EReal)) = ((∑ k, f k : ℝ) : EReal) := by
  classical
  induction n with
  | zero => simp
  | succ n ih => rw [Fin.sum_univ_castSucc, Fin.sum_univ_castSucc, ih, EReal.coe_add]

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of reals is a real. -/
theorem IsReal.sum {n : ℕ} {f : Fin n → EReal} (h : ∀ k, IsReal (f k)) : IsReal (∑ k, f k) := by
  choose g hg using h
  exact ⟨∑ k, g k, by rw [← coe_sum]; exact Finset.sum_congr rfl fun k _ => hg k⟩

theorem isReal_zero : IsReal 0 := ⟨0, rfl⟩

/-- An extended real whose absolute value is below the top is a real. -/
theorem isReal_of_abs_lt {x : EReal} (h : max x (-x) < ⊤) : IsReal x := by
  induction x with
  | bot => simp at h
  | top => simp at h
  | coe r => exact ⟨r, rfl⟩

/-- The running maximum of a row that has a largest entry is that entry. -/
theorem fold_max_eq {n : ℕ} (s : Fin n → EReal) (i : Fin n) (h : ∀ k, s k ≤ s i) :
    Finset.univ.fold max ⊥ s = s i :=
  le_antisymm (Finset.sup_le (f := s) fun k _ => h k) (Finset.le_sup (f := s) (Finset.mem_univ i))

/-- Some entry of a nonempty row is its largest. -/
theorem exists_largest {n : ℕ} (hn : 0 < n) (s : Fin n → EReal) : ∃ i, ∀ k, s k ≤ s i := by
  haveI : Nonempty (Fin n) := ⟨⟨0, hn⟩⟩
  exact Finite.exists_max s

/-- A power of two is the exponential of the exponent times the logarithm of two. -/
theorem exp2_eq_exp (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]

/-- Scaling by the logarithm of two keeps the order of two reals. -/
theorem scale_le {a b : ℝ} (h : (a : EReal) ≤ b) : (a : EReal) * (Real.log 2 : ℝ) ≤ (b : EReal) * (Real.log 2 : ℝ) := by
  rw [← EReal.coe_mul, ← EReal.coe_mul, EReal.coe_le_coe_iff]
  exact mul_le_mul_of_nonneg_right (EReal.coe_le_coe_iff.mp h) (Real.log_nonneg (by norm_num))

/-- One softmax weight of a row of real scores: the kernel's power of two of the score above the maximum, times the
    reciprocal of the powers' sum, is the exponential of the scaled score above the scaled maximum over the
    exponentials' sum. -/
theorem softmax_eq {n : ℕ} (s : Fin n → EReal) (hs : ∀ k, IsReal (s k)) (k : Fin n) :
    Ideal.exp2 (s k - Finset.univ.fold max ⊥ s)
        * Ideal.div 1 (∑ j, Ideal.exp2 (s j - Finset.univ.fold max ⊥ s))
      = Ideal.div
          (Ideal.exp (s k * (Real.log 2 : ℝ) - max ⊥ (Finset.univ.fold max ⊥ fun j => s j * (Real.log 2 : ℝ))))
          (∑ j, Ideal.exp (s j * (Real.log 2 : ℝ)
            - max ⊥ (Finset.univ.fold max ⊥ fun j => s j * (Real.log 2 : ℝ)))) := by
  choose x hx using hs
  obtain rfl : s = fun k => (x k : EReal) := funext hx
  obtain ⟨i, hi⟩ := exists_largest (Fin.pos k) fun k => (x k : EReal)
  rw [fold_max_eq _ i hi, fold_max_eq (fun j => (x j : EReal) * (Real.log 2 : ℝ)) i fun j => scale_le (hi j),
    max_eq_right bot_le]
  have e1 : ∀ j, Ideal.exp2 ((x j : EReal) - x i) = ((Real.exp ((x j - x i) * Real.log 2) : ℝ) : EReal) := fun j => by
    rw [← EReal.coe_sub, exp2_eq_exp]
  have e2 : ∀ j, Ideal.exp ((x j : EReal) * (Real.log 2 : ℝ) - (x i : EReal) * (Real.log 2 : ℝ))
      = ((Real.exp ((x j - x i) * Real.log 2) : ℝ) : EReal) := fun j => by
    rw [← EReal.coe_mul, ← EReal.coe_mul, ← EReal.coe_sub, Ideal.exp_coe, sub_mul]
  simp only [e1, e2]
  rw [coe_sum]
  have hl : (∑ j, Real.exp ((x j - x i) * Real.log 2)) ≠ 0 :=
    (Finset.sum_pos (fun j _ => Real.exp_pos _) ⟨k, Finset.mem_univ k⟩).ne'
  rw [Ideal.div_coe hl, Ideal.div_coe hl, one_mul]

/-- The pattern of minus infinity is the bottom. -/
theorem ofBits_neg_inf : Ideal.ofBits .f32 0xFF800000#32 = ⊥ := by simp [Ideal.ofBits, Ideal.ieee]

/-- The pattern of plus infinity is the top. -/
theorem ofBits_inf : Ideal.ofBits .f32 0x7F800000#32 = ⊤ := by simp [Ideal.ofBits, Ideal.ieee]

/-- The logarithm of the pattern of two is the real logarithm of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]; norm_num
  rw [h, Ideal.log_coe, if_neg (by norm_num)]

end Cert.Soft

end
-- ==== Proof.DiffSpec.lean ====
/-
  Differential attention of one query row, stated on plain functions of positions and lanes: the two score rows of a
  head, their softmax weights, the weighted values, and the head's normalisation and gate.
-/
module

public import proofs.«01_k».proof.Proof.Soft

@[expose] public section

noncomputable section

namespace Cert.DiffSpec

open Idealize.ShloMosaic Cert.Soft
open scoped BigOperators

/-- The score of a query row and a key on the first half of the head's lanes. -/
def scoreLo (q k : Fin 128 → EReal) : EReal := ∑ d : Fin 64, q ⟨d, by omega⟩ * k ⟨d, by omega⟩

/-- The score of a query row and a key on the second half of the head's lanes. -/
def scoreHi (q k : Fin 128 → EReal) : EReal := ∑ d : Fin 64, q ⟨64 + d, by omega⟩ * k ⟨64 + d, by omega⟩

/-- The softmax weight of position `j` in a row of scores taken to base two. -/
def weight {n : ℕ} (s : Fin n → EReal) (j : Fin n) : EReal :=
  Ideal.div
    (Ideal.exp (s j * (Real.log 2 : ℝ) - max ⊥ (Finset.univ.fold max ⊥ fun l => s l * (Real.log 2 : ℝ))))
    (∑ l, Ideal.exp (s l * (Real.log 2 : ℝ) - max ⊥ (Finset.univ.fold max ⊥ fun l => s l * (Real.log 2 : ℝ))))

/-- The first softmax minus `lam` times the second, over the values. -/
def mix (lam : EReal) (q : Fin 128 → EReal) (k v : Fin 2048 → Fin 128 → EReal) (e : Fin 128) : EReal :=
  ∑ j, (weight (fun l => scoreLo q (k l)) j - lam * weight (fun l => scoreHi q (k l)) j) * v j e

/-- A head's row over its root mean square, times the gain, the constant `1 - λ₀` and the gate. -/
def finish (o gain gate : Fin 128 → EReal) (e : Fin 128) : EReal :=
  o e * Ideal.rsqrt (Ideal.div (∑ d, o d * o d) (Ideal.ofBits .f32 0x43000000#32) + Ideal.ofBits .f32 0x358637BD#32)
    * gain e * Ideal.ofBits .f32 0x3F4CCCCD#32 * gate e

/-- The factor of the second softmax, from its four parameter rows. -/
def lamOf (a b c d : Fin 64 → EReal) : EReal :=
  Ideal.exp (∑ i, a i * b i) - Ideal.exp (∑ i, c i * d i) + Ideal.ofBits .f32 0x3E4CCCCD#32

/-- The scores of real entries are real. -/
theorem scoreLo_real {q k : Fin 128 → EReal} (hq : ∀ d, IsReal (q d)) (hk : ∀ d, IsReal (k d)) :
    IsReal (scoreLo q k) := IsReal.sum fun _ => (hq _).mul (hk _)

theorem scoreHi_real {q k : Fin 128 → EReal} (hq : ∀ d, IsReal (q d)) (hk : ∀ d, IsReal (k d)) :
    IsReal (scoreHi q k) := IsReal.sum fun _ => (hq _).mul (hk _)

/-- The weight written with powers of two and a reciprocal. -/
theorem weight_eq {n : ℕ} (s : Fin n → EReal) (hs : ∀ k, IsReal (s k)) (k : Fin n) :
    Ideal.exp2 (s k - Finset.univ.fold max ⊥ s) * Ideal.div 1 (∑ j, Ideal.exp2 (s j - Finset.univ.fold max ⊥ s))
      = weight s k := softmax_eq s hs k

end Cert.DiffSpec

end
-- ==== Proof.HeadB.lean ====
/-
  What the differential-attention body stores for one head, read at an entry.  The four heads of a block are stored by
  four pieces of one computation; each piece is that computation of its own slices.
-/
module

public import proofs.«01_k».proof.Proof.DiffSpec
public import Idealize.ShloMosaic.Lib.WordCmp
public import proofs.«01_k».proof.Proof.Gen.AttnBIdeal.Skeleton

@[expose] public section

set_option maxRecDepth 16384

noncomputable section

namespace Cert.AttnBIdeal.Head

open Cert.AttnBIdeal Cert.AttnBIdeal.Gen Idealize.ShloMosaic Idealize.ShloMosaic.TcCoe Cert.Soft Cert.DiffSpec
open scoped BigOperators

/-- One head's stored block, from the scalar `lam` and the head's slices of the queries, keys, values, gain and gate. -/
def headOut (lam : FVec Ideal S1x1 .f32) (q : FVec Ideal S1x256x128 .bf16) (k v : FVec Ideal S1x2048x128 .bf16)
    (gain : FVec Ideal S1x128 .f32) (gate : FVec Ideal S1x256x128 .bf16) : FVec Ideal S1x256x128 .bf16 :=
  k0_pay10 (k0_pay8 lam k0_pay3 q k v) (k0_pay9 lam k0_pay3 q k v) gain gate

/-- The first head's piece. -/
theorem piece_first (lam : FVec Ideal S1x1 .f32) (q : FVec Ideal S1x256x128 .bf16) (k v : FVec Ideal S1x2048x128 .bf16)
    (gain : FVec Ideal S1x128 .f32) (gate : FVec Ideal S1x256x128 .bf16) :
    k0_pay7 (k0_pay6 lam (k0_pay4 q k) (k0_pay5 q k) v gain gate) = headOut lam q k v gain gate := rfl

/-- The third head's piece. -/
theorem piece_third (lam : FVec Ideal S1x1 .f32) (q : FVec Ideal S1x256x128 .bf16) (k v : FVec Ideal S1x2048x128 .bf16)
    (gain : FVec Ideal S1x128 .f32) (gate : FVec Ideal S1x256x128 .bf16) :
    k0_pay12 lam (k0_pay11 k0_pay3 q k) v gain gate = headOut lam q k v gain gate := rfl

/-- The fourth head's piece. -/
theorem piece_fourth (lam : FVec Ideal S1x1 .f32) (q : FVec Ideal S1x256x128 .bf16) (k v : FVec Ideal S1x2048x128 .bf16)
    (gain : FVec Ideal S1x128 .f32) (gate : FVec Ideal S1x256x128 .bf16) :
    k0_pay1 (k0_pay13 lam k0_pay3 q k v) (k0_pay14 lam k0_pay3 q k v) (Scalar.ofBits .f32 0x358637BD#32) gain gate
      = headOut lam q k v gain gate := rfl

/-- The lane test of the body, at a lane. -/
theorem lane_lt (i : Fin 256) (d : Fin 128) (x y : EReal) :
    Scalar.select ((k0_pay3 : IVec S256x128 1) (ix2 i d)) x y = if (d : ℕ) < 64 then x else y := by
  have hd := d.isLt
  pointwise [k0_pay3]
  word_cmp

/-- A sum over a head's lanes with the second half masked is the sum over the first half. -/
theorem sum_lo (i : Fin 256) (q k : Fin 128 → EReal) :
    ∑ d : Fin 128, Scalar.select ((k0_pay3 : IVec S256x128 1) (ix2 i d)) (q d * k d) 0 = scoreLo q k := by
  simp only [lane_lt]
  rw [Fin.sum_univ_two_halves 64 64 rfl]
  have h : ∀ d : Fin 64, ¬(64 + (d : ℕ) < 64) := fun d => by omega
  simp only [Fin.is_lt, if_true, h, if_false, Finset.sum_const_zero, add_zero]
  rfl

/-- A sum over a head's lanes with the first half masked is the sum over the second half. -/
theorem sum_hi (i : Fin 256) (q k : Fin 128 → EReal) :
    ∑ d : Fin 128, Scalar.select ((k0_pay3 : IVec S256x128 1) (ix2 i d)) 0 (q d * k d) = scoreHi q k := by
  simp only [lane_lt]
  rw [Fin.sum_univ_two_halves 64 64 rfl]
  have h : ∀ d : Fin 64, ¬(64 + (d : ℕ) < 64) := fun d => by omega
  simp only [Fin.is_lt, if_true, h, if_false, Finset.sum_const_zero, zero_add]
  rfl

/-- The exponential the body takes is a power of two. -/
theorem exp2_def (x : EReal) : FloatOps.exp2 (F := Ideal) (φ := .f32) x = Ideal.exp2 x := rfl

/-- The weighted values of one head at row `i`, lane `e`. -/
theorem pay8_at (lam : FVec Ideal S1x1 .f32) (q : FVec Ideal S1x256x128 .bf16) (k v : FVec Ideal S1x2048x128 .bf16)
    (hq : ∀ x, IsReal (q x)) (hk : ∀ x, IsReal (k x)) (i : Fin 256) (e : Fin 128) :
    k0_pay8 (F := Ideal) lam k0_pay3 q k v (ix2 i e)
      = mix (lam (ix2 0 0)) (fun d => q (ix3 0 i d)) (fun l d => k (ix3 0 l d)) (fun l d => v (ix3 0 l d)) e := by
  pointwise [k0_pay8]
  simp only [sum_lo i (fun d => q (ix3 0 i d)), sum_hi i (fun d => q (ix3 0 i d)), ofBits_neg_inf, exp2_def]
  unfold mix
  refine Finset.sum_congr rfl fun j _ => ?_
  rw [← weight_eq _ (fun l => scoreLo_real (fun d => hq _) (fun d => hk _)),
    ← weight_eq _ (fun l => scoreHi_real (fun d => hq _) (fun d => hk _)), mul_left_comm (lam (ix2 0 0))]

/-- The sum of squares the body takes is that of the weighted values. -/
theorem pay9_at (lam : FVec Ideal S1x1 .f32) (q : FVec Ideal S1x256x128 .bf16) (k v : FVec Ideal S1x2048x128 .bf16)
    (i : Fin 256) :
    k0_pay9 (F := Ideal) lam k0_pay3 q k v (ix2 i 0)
      = ∑ d : Fin 128, k0_pay8 (F := Ideal) lam k0_pay3 q k v (ix2 i d)
          * k0_pay8 (F := Ideal) lam k0_pay3 q k v (ix2 i d) := by
  have h : k0_pay9 (F := Ideal) lam k0_pay3 q k v = shapeCast S256x1 (multiReduction .add [1] S256
      (mulf (k0_pay8 (F := Ideal) lam k0_pay3 q k v) (k0_pay8 (F := Ideal) lam k0_pay3 q k v)) 0x00000000#32
      reduces_S256x128_S256 (.inl rfl) rfl) shapeCasts_S256_S256x1 := rfl
  rw [h]
  generalize k0_pay8 (F := Ideal) lam k0_pay3 q k v = o
  pointwise

/-- One head's stored block at row `i`, lane `e`. -/
theorem headOut_at (lam : FVec Ideal S1x1 .f32) (q : FVec Ideal S1x256x128 .bf16) (k v : FVec Ideal S1x2048x128 .bf16)
    (gain : FVec Ideal S1x128 .f32) (gate : FVec Ideal S1x256x128 .bf16)
    (hq : ∀ x, IsReal (q x)) (hk : ∀ x, IsReal (k x)) (i : Fin 256) (e : Fin 128) :
    headOut lam q k v gain gate (ix3 0 i e)
      = finish (mix (lam (ix2 0 0)) (fun d => q (ix3 0 i d)) (fun l d => k (ix3 0 l d)) (fun l d => v (ix3 0 l d)))
          (fun d => gain (ix2 0 d)) (fun d => gate (ix3 0 i d)) e := by
  have h8 := pay8_at lam q k v hq hk i
  have h9 := pay9_at lam q k v i
  unfold headOut finish
  simp only [← h8, ← h9]
  generalize k0_pay8 (F := Ideal) lam k0_pay3 q k v = o
  generalize k0_pay9 (F := Ideal) lam k0_pay3 q k v = s
  pointwise [k0_pay10]

/-- The scalar the body multiplies the second softmax by. -/
theorem lam_at (a b c d : FVec Ideal S1x64 .f32) :
    k0_pay2 (F := Ideal) a b c d (ix2 0 0) = lamOf (fun i => a (ix2 0 i)) (fun i => b (ix2 0 i)) (fun i => c (ix2 0 i)) (fun i => d (ix2 0 i)) := by
  pointwise [k0_pay2]
  rfl

end Cert.AttnBIdeal.Head

end
-- ==== Proof.ValB.lean ====
/-
  The differential-attention kernel's result as one function of its arguments: what each grid point writes back is the
  head's row of the specification at the block's coordinates.
-/
module

public import proofs.«01_k».proof.Proof.HeadB
public import proofs.«01_k».proof.Proof.Gen.AttnBIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AttnBIdeal.Whole

open Cert.AttnBIdeal Cert.AttnBIdeal.Gen Cert.AttnBIdeal.Head Cert.Soft Cert.DiffSpec

variable (m : (ℓ : Loc nD τ sig) → Buf (Elt Ideal) ℓ)

/-- The result from the six arguments: one head's row of the specification at every row and lane. -/
def RES (proj : FVec Ideal S32x2048x3328 .bf16) (a1 a2 a3 a4 : FVec Ideal S1x64 .f32) (gain : FVec Ideal S1x128 .f32) :
    FVec Ideal S32x2048x512 .bf16 := fun i =>
  finish (mix (lamOf (fun d => a1 (ix2 0 d)) (fun d => a2 (ix2 0 d)) (fun d => a3 (ix2 0 d)) (fun d => a4 (ix2 0 d)))
      (fun d => proj (ix3 (i 0) (i 1) ⟨1024 + ((i 2 : ℕ) / 128 * 128 + d), by have h : (i 2 : ℕ) < 512 := (i 2).isLt; omega⟩))
      (fun l d => proj (ix3 (i 0) l ⟨1536 + ((i 2 : ℕ) / 128 * 128 + d), by have h : (i 2 : ℕ) < 512 := (i 2).isLt; omega⟩))
      (fun l d => proj (ix3 (i 0) l ⟨2048 + ((i 2 : ℕ) / 128 * 128 + d), by have h : (i 2 : ℕ) < 512 := (i 2).isLt; omega⟩)))
    (fun d => gain (ix2 0 d))
    (fun d => proj (ix3 (i 0) (i 1) ⟨2560 + ((i 2 : ℕ) / 128 * 128 + d), by have h : (i 2 : ℕ) < 512 := (i 2).isLt; omega⟩))
    ⟨(i 2 : ℕ) % 128, by omega⟩

/-- Every window's block index at every grid point. -/
theorem idx : ∀ t : Fin cfg0.N, win0_0.index t = ![0, 0] ∧ win0_1.index t = ![t.val / 8, t.val % 8, 2]
    ∧ win0_2.index t = ![t.val / 8, 0, 3] ∧ win0_3.index t = ![t.val / 8, 0, 4]
    ∧ win0_4.index t = ![t.val / 8, t.val % 8, 5] ∧ win0_5.index t = ![0, 0]
    ∧ win0_6.index t = ![t.val / 8, t.val % 8, 0] :=
  (by decide +kernel : ∀ t : Fin grid0.N, _)

/-- The query block at a grid point. -/
theorem q_blk (c : Dev nD) (t : Fin cfg0.N) (i : Fin 256) (d : Fin 512) (b : Fin 32) (n : Fin 8)
    (hb : (b : ℕ) = t.val / 8) (hn : (n : ℕ) = t.val % 8) :
    X0_1 m c t (ix3 0 i d) = m ((c : Thread nD τ).loc main_arg0) (ix3 b ⟨n * 256 + i, by omega⟩ ⟨1024 + d, by omega⟩) := by
  unfold X0_1 Pipeline.Window.fill
  rw [dif_pos (moved0_1 t _)]
  blk_point [iblk, V, idx t]

/-- The key block at a grid point. -/
theorem k_blk (c : Dev nD) (t : Fin cfg0.N) (l : Fin 2048) (d : Fin 512) (b : Fin 32) (hb : (b : ℕ) = t.val / 8) :
    X0_2 m c t (ix3 0 l d) = m ((c : Thread nD τ).loc main_arg0) (ix3 b l ⟨1536 + d, by omega⟩) := by
  unfold X0_2 Pipeline.Window.fill
  rw [dif_pos (moved0_2 t _)]
  blk_point [iblk, V, idx t]

/-- The value block at a grid point. -/
theorem v_blk (c : Dev nD) (t : Fin cfg0.N) (l : Fin 2048) (d : Fin 512) (b : Fin 32) (hb : (b : ℕ) = t.val / 8) :
    X0_3 m c t (ix3 0 l d) = m ((c : Thread nD τ).loc main_arg0) (ix3 b l ⟨2048 + d, by omega⟩) := by
  unfold X0_3 Pipeline.Window.fill
  rw [dif_pos (moved0_3 t _)]
  blk_point [iblk, V, idx t]

/-- The gate block at a grid point. -/
theorem gate_blk (c : Dev nD) (t : Fin cfg0.N) (i : Fin 256) (d : Fin 512) (b : Fin 32) (n : Fin 8)
    (hb : (b : ℕ) = t.val / 8) (hn : (n : ℕ) = t.val % 8) :
    X0_4 m c t (ix3 0 i d) = m ((c : Thread nD τ).loc main_arg0) (ix3 b ⟨n * 256 + i, by omega⟩ ⟨2560 + d, by omega⟩) := by
  unfold X0_4 Pipeline.Window.fill
  rw [dif_pos (moved0_4 t _)]
  blk_point [iblk, V, idx t]

/-- The gain block at a grid point. -/
theorem gain_blk (c : Dev nD) (t : Fin cfg0.N) (d : Fin 128) :
    iblk m c 5 t (ix2 0 d) = m ((c : Thread nD τ).loc main_arg5) (ix2 0 d) := by
  blk_point [iblk, V, idx t]

/-- The row of parameters the host stacks at position `p`. -/
theorem rows_V (c : Dev nD) (p : Fin 4) (d : Fin 64) :
    V m c main_v0 (ix2 p d) = if (p : ℕ) < 1 then m ((c : Thread nD τ).loc main_arg1) (ix2 0 d)
      else if (p : ℕ) - 1 < 1 then m ((c : Thread nD τ).loc main_arg2) (ix2 0 d)
      else if (p : ℕ) - 1 - 1 < 1 then m ((c : Thread nD τ).loc main_arg3) (ix2 0 d)
      else m ((c : Thread nD τ).loc main_arg4) (ix2 0 d) := by
  unfold V
  after_results
  pointwise
  split_ifs <;> blk_ext

/-- The block of parameter rows at a grid point is the stacked rows. -/
theorem rows_blk (c : Dev nD) (t : Fin cfg0.N) (p : Fin 4) (d : Fin 64) :
    iblk m c 0 t (ix2 p d) = V m c main_v0 (ix2 p d) := by
  unfold iblk
  blk_ext [idx t]

/-- Row 0 of the block of parameter rows at a grid point. -/
theorem lam_blk0 (c : Dev nD) (t : Fin cfg0.N) (d : Fin 64) :
    iblk m c 0 t (ix2 0 d) = m ((c : Thread nD τ).loc main_arg1) (ix2 0 d) :=
  (rows_blk m c t 0 d).trans (rows_V m c 0 d)

/-- Row 1 of the block of parameter rows at a grid point. -/
theorem lam_blk1 (c : Dev nD) (t : Fin cfg0.N) (d : Fin 64) :
    iblk m c 0 t (ix2 1 d) = m ((c : Thread nD τ).loc main_arg2) (ix2 0 d) :=
  (rows_blk m c t 1 d).trans (rows_V m c 1 d)

/-- Row 2 of the block of parameter rows at a grid point. -/
theorem lam_blk2 (c : Dev nD) (t : Fin cfg0.N) (d : Fin 64) :
    iblk m c 0 t (ix2 2 d) = m ((c : Thread nD τ).loc main_arg3) (ix2 0 d) :=
  (rows_blk m c t 2 d).trans (rows_V m c 2 d)

/-- Row 3 of the block of parameter rows at a grid point. -/
theorem lam_blk3 (c : Dev nD) (t : Fin cfg0.N) (d : Fin 64) :
    iblk m c 0 t (ix2 3 d) = m ((c : Thread nD τ).loc main_arg4) (ix2 0 d) :=
  (rows_blk m c t 3 d).trans (rows_V m c 3 d)

/-- An index of a stored block is a row and a lane. -/
theorem rows (x : S1x256x128.Idx) : ∃ (i : Fin 256) (e : Fin 128), x = ix3 0 i e := by
  idx_vars x
  obtain rfl : x0 = 0 := Subsingleton.elim _ _
  exact ⟨x1, x2, rfl⟩

/-- A stored block of one head is the result at the block's place, for slices that are the projection's columns there. -/
theorem core (proj : FVec Ideal S32x2048x3328 .bf16) (hfin : ∀ x, IsReal (proj x)) (a1 a2 a3 a4 : FVec Ideal S1x64 .f32)
    (g : FVec Ideal S1x128 .f32) (b : Fin 32) (n : Fin 8) (h o : ℕ) (hh : h < 4) (ho : o = h * 128)
    (lam : FVec Ideal S1x1 .f32) (q : FVec Ideal S1x256x128 .bf16) (k v : FVec Ideal S1x2048x128 .bf16)
    (gain : FVec Ideal S1x128 .f32) (gate : FVec Ideal S1x256x128 .bf16)
    (hl : lam (ix2 0 0) = lamOf (fun d => a1 (ix2 0 d)) (fun d => a2 (ix2 0 d)) (fun d => a3 (ix2 0 d)) (fun d => a4 (ix2 0 d)))
    (hq : ∀ (i : Fin 256) (d : Fin 128), q (ix3 0 i d) = proj (ix3 b ⟨n * 256 + i, by omega⟩ ⟨1024 + (o + d), by omega⟩))
    (hk : ∀ (l : Fin 2048) (d : Fin 128), k (ix3 0 l d) = proj (ix3 b l ⟨1536 + (o + d), by omega⟩))
    (hv : ∀ (l : Fin 2048) (d : Fin 128), v (ix3 0 l d) = proj (ix3 b l ⟨2048 + (o + d), by omega⟩))
    (hg : ∀ d : Fin 128, gain (ix2 0 d) = g (ix2 0 d))
    (ht : ∀ (i : Fin 256) (d : Fin 128), gate (ix3 0 i d) = proj (ix3 b ⟨n * 256 + i, by omega⟩ ⟨2560 + (o + d), by omega⟩))
    (j : S32x2048x512.Idx) (x : S1x256x128.Idx) (hj0 : (j 0 : ℕ) = b) (hj1 : (j 1 : ℕ) = n * 256 + x 1)
    (hj2 : (j 2 : ℕ) = o + x 2) :
    headOut lam q k v gain gate x = RES proj a1 a2 a3 a4 g j := by
  have hqr : ∀ y, IsReal (q y) := fun y => by
    idx_vars y; obtain rfl : y0 = 0 := Subsingleton.elim _ _; rw [hq]; exact hfin _
  have hkr : ∀ y, IsReal (k y) := fun y => by
    idx_vars y; obtain rfl : y0 = 0 := Subsingleton.elim _ _; rw [hk]; exact hfin _
  subst ho
  obtain ⟨i, e, rfl⟩ := rows x
  have hj : j = ix3 b ⟨n * 256 + i, by omega⟩ ⟨h * 128 + e, by omega⟩ := by
    funext a; fin_cases a
    · exact Fin.ext hj0
    · exact Fin.ext hj1
    · exact Fin.ext hj2
  rw [hj, headOut_at lam q k v gain gate hqr hkr]
  simp only [hl, hq, hk, hv, hg, ht]
  have e1 : (h * 128 + (e : ℕ)) / 128 = h := by omega
  have e2 : (h * 128 + (e : ℕ)) % 128 = e := by omega
  unfold RES
  simp only [ix3_0, ix3_1, ix3_2, e1, e2]

/-- The scalar of the second softmax at a grid point. -/
theorem lam_point (t : Fin cfg0.N) :
    k0_pay2 (F := Ideal) (View.ld (iblk m 0 0 t) (Rect.unit ![0, 0] ![1, 64] inb_S4x64_S1x64_0_0))
      (View.ld (iblk m 0 0 t) (Rect.unit ![1, 0] ![1, 64] inb_S4x64_S1x64_1_0))
      (View.ld (iblk m 0 0 t) (Rect.unit ![2, 0] ![1, 64] inb_S4x64_S1x64_2_0))
      (View.ld (iblk m 0 0 t) (Rect.unit ![3, 0] ![1, 64] inb_S4x64_S1x64_3_0)) (ix2 0 0)
    = lamOf (fun d => m ((Dev.tc 0 : Thread nD τ).loc main_arg1) (ix2 0 d)) (fun d => m ((Dev.tc 0 : Thread nD τ).loc main_arg2) (ix2 0 d))
      (fun d => m ((Dev.tc 0 : Thread nD τ).loc main_arg3) (ix2 0 d)) (fun d => m ((Dev.tc 0 : Thread nD τ).loc main_arg4) (ix2 0 d)) := by
  refine (lam_at _ _ _ _).trans ?_
  congr 1 <;> funext d
  · exact Eq.trans (by pointwise) (lam_blk0 m 0 t d)
  · exact Eq.trans (by pointwise) (lam_blk1 m 0 t d)
  · exact Eq.trans (by pointwise) (lam_blk2 m 0 t d)
  · exact Eq.trans (by pointwise) (lam_blk3 m 0 t d)

/-- What a grid point leaves in the output block is the result there. -/
theorem out_point (hfin : ∀ x, IsReal (m (((0 : Dev nD) : Thread nD τ).loc main_arg0) x)) (c : Dev nD) (t : Fin cfg0.N) (y : S1x256x512.Idx)
    (j : S32x2048x512.Idx) (hj0 : (j 0 : ℕ) = t.val / 8) (hj1 : (j 1 : ℕ) = t.val % 8 * 256 + y 1) (hj2 : (j 2 : ℕ) = y 2) :
    outsAt0 m c t y = RES (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) j := by
  obtain rfl : c = 0 := Subsingleton.elim _ _
  have ht : t.val < 256 := lt_of_lt_of_eq t.isLt N_0
  unfold outsAt0
  frame_out
  canon_tiles x h
  case piece0 =>
    rw [piece_fourth]
    refine core _ hfin _ _ _ _ _ ⟨t.val / 8, by omega⟩ ⟨t.val % 8, by omega⟩ 3 384 (by omega) rfl _ _ _ _ _ _
      (lam_point m t) (fun i d => ?_) (fun l d => ?_) (fun l d => ?_) (gain_blk m 0 t) (fun i d => ?_) j x hj0
      (hj1.trans (by rw [h1])) (hj2.trans h2)
    · exact Eq.trans (b := X0_1 m 0 t (ix3 0 i ⟨384 + d, by omega⟩)) (by pointwise) (q_blk m 0 t i _ _ ⟨t.val % 8, by omega⟩ rfl rfl)
    · exact Eq.trans (b := X0_2 m 0 t (ix3 0 l ⟨384 + d, by omega⟩)) (by pointwise) (k_blk m 0 t l _ _ rfl)
    · exact Eq.trans (b := X0_3 m 0 t (ix3 0 l ⟨384 + d, by omega⟩)) (by pointwise) (v_blk m 0 t l _ _ rfl)
    · exact Eq.trans (b := X0_4 m 0 t (ix3 0 i ⟨384 + d, by omega⟩)) (by pointwise) (gate_blk m 0 t i _ _ ⟨t.val % 8, by omega⟩ rfl rfl)
  case piece1 =>
    rw [piece_third]
    refine core _ hfin _ _ _ _ _ ⟨t.val / 8, by omega⟩ ⟨t.val % 8, by omega⟩ 2 256 (by omega) rfl _ _ _ _ _ _
      (lam_point m t) (fun i d => ?_) (fun l d => ?_) (fun l d => ?_) (gain_blk m 0 t) (fun i d => ?_) j x hj0
      (hj1.trans (by rw [h1])) (hj2.trans h2)
    · exact Eq.trans (b := X0_1 m 0 t (ix3 0 i ⟨256 + d, by omega⟩)) (by pointwise) (q_blk m 0 t i _ _ ⟨t.val % 8, by omega⟩ rfl rfl)
    · exact Eq.trans (b := X0_2 m 0 t (ix3 0 l ⟨256 + d, by omega⟩)) (by pointwise) (k_blk m 0 t l _ _ rfl)
    · exact Eq.trans (b := X0_3 m 0 t (ix3 0 l ⟨256 + d, by omega⟩)) (by pointwise) (v_blk m 0 t l _ _ rfl)
    · exact Eq.trans (b := X0_4 m 0 t (ix3 0 i ⟨256 + d, by omega⟩)) (by pointwise) (gate_blk m 0 t i _ _ ⟨t.val % 8, by omega⟩ rfl rfl)
  case piece2 =>
    rw [← headOut]
    refine core _ hfin _ _ _ _ _ ⟨t.val / 8, by omega⟩ ⟨t.val % 8, by omega⟩ 1 128 (by omega) rfl _ _ _ _ _ _
      (lam_point m t) (fun i d => ?_) (fun l d => ?_) (fun l d => ?_) (gain_blk m 0 t) (fun i d => ?_) j x hj0
      (hj1.trans (by rw [h1])) (hj2.trans h2)
    · exact Eq.trans (b := X0_1 m 0 t (ix3 0 i ⟨128 + d, by omega⟩)) (by pointwise) (q_blk m 0 t i _ _ ⟨t.val % 8, by omega⟩ rfl rfl)
    · exact Eq.trans (b := X0_2 m 0 t (ix3 0 l ⟨128 + d, by omega⟩)) (by pointwise) (k_blk m 0 t l _ _ rfl)
    · exact Eq.trans (b := X0_3 m 0 t (ix3 0 l ⟨128 + d, by omega⟩)) (by pointwise) (v_blk m 0 t l _ _ rfl)
    · exact Eq.trans (b := X0_4 m 0 t (ix3 0 i ⟨128 + d, by omega⟩)) (by pointwise) (gate_blk m 0 t i _ _ ⟨t.val % 8, by omega⟩ rfl rfl)
  case piece3 =>
    rw [piece_first]
    refine core _ hfin _ _ _ _ _ ⟨t.val / 8, by omega⟩ ⟨t.val % 8, by omega⟩ 0 0 (by omega) rfl _ _ _ _ _ _
      (lam_point m t) (fun i d => ?_) (fun l d => ?_) (fun l d => ?_) (gain_blk m 0 t) (fun i d => ?_) j x hj0
      (hj1.trans (by rw [h1])) (hj2.trans (h2.trans (Nat.zero_add _).symm))
    · exact Eq.trans (b := X0_1 m 0 t (ix3 0 i ⟨0 + d, by omega⟩)) (by pointwise) (q_blk m 0 t i _ _ ⟨t.val % 8, by omega⟩ rfl rfl)
    · exact Eq.trans (b := X0_2 m 0 t (ix3 0 l ⟨0 + d, by omega⟩)) (by pointwise) (k_blk m 0 t l _ _ rfl)
    · exact Eq.trans (b := X0_3 m 0 t (ix3 0 l ⟨0 + d, by omega⟩)) (by pointwise) (v_blk m 0 t l _ _ rfl)
    · exact Eq.trans (b := X0_4 m 0 t (ix3 0 i ⟨0 + d, by omega⟩)) (by pointwise) (gate_blk m 0 t i _ _ ⟨t.val % 8, by omega⟩ rfl rfl)

/-- After the run the result array is `RES` of the arguments. -/
theorem final (hfin : ∀ x, IsReal (m (((0 : Dev nD) : Thread nD τ).loc main_arg0) x)) (c : Dev nD) :
    (dats m 0 c).arrAt 6 cfg0.N = RES (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have ht : t.val < 256 := lt_of_lt_of_eq t.isLt N_0
  blk_simp
  rw [after0_6]
  refine out_point m hfin c t _ _ ?_ ?_ ?_
  all_goals (blk_simp [idx t] <;> try omega)

end Cert.AttnBIdeal.Whole

end
-- ==== Proof.RefB.lean ====
/-
  The differential-attention reference read at an entry: its stages are the row's score, softmax, mix and finish.
-/
module

public import proofs.«01_k».proof.Proof.DiffSpec
public import proofs.«01_k».proof.Proof.Gen.AttnBRefIdeal.Read

@[expose] public section

set_option maxRecDepth 16384

noncomputable section

namespace Cert.AttnBRefIdeal.Point

open Cert.AttnBRefIdeal Cert.AttnBRefIdeal.Read Idealize.ShloMosaic Idealize.ShloMosaic.TcCoe Cert.Soft Cert.DiffSpec
open scoped BigOperators

/-- The fused projection array. -/
abbrev Proj := (⟨S32x2048x3328, .bf16⟩ : BufTy).Contents (Elt Ideal)

/-- The scaled score of a query row and a key. -/
theorem score_at (x0 : Proj) (b : Fin 32) (h : Fin 4) (c : Fin 2) (r j : Fin 2048) :
    val_main_v11 (F := Ideal) x0 (ix5 b h c r j)
      = (∑ x : Fin 64, x0 (ix3 b r ⟨1024 + (h * 128 + c * 64 + x), by omega⟩)
          * x0 (ix3 b j ⟨1536 + (h * 128 + c * 64 + x), by omega⟩)) * (Real.log 2 : ℝ) := by
  pointwise [val_main_v11, val_main_v10, val_main_v9, val_main_cst, val_main_v8, val_main_v2, val_main_v4, val_main_v1, val_main_v3, val_main_v0]
  rw [log_two]

/-- The largest scaled score of a row. -/
theorem max_at (x0 : Proj) (b : Fin 32) (h : Fin 4) (c : Fin 2) (r : Fin 2048) :
    val_main_v12 (F := Ideal) x0 (ix4 b h c r)
      = Finset.univ.fold max ⊥ fun l => val_main_v11 (F := Ideal) x0 (ix5 b h c r l) := by
  unfold val_main_v12
  generalize val_main_v11 (F := Ideal) x0 = s
  pointwise [val_main_cst_0]
  rw [ofBits_neg_inf]

/-- The exponential of a score less the row's maximum. -/
theorem exp_at (x0 : Proj) (b : Fin 32) (h : Fin 4) (c : Fin 2) (r j : Fin 2048) :
    val_main_v18 (F := Ideal) x0 (ix5 b h c r j)
      = Ideal.exp (val_main_v11 (F := Ideal) x0 (ix5 b h c r j)
          - max ⊥ (Finset.univ.fold max ⊥ fun l => val_main_v11 (F := Ideal) x0 (ix5 b h c r l))) := by
  have hi : idx_main_v15 (idx_main_v16 (ix5 b h c r j)) = ix4 b h c r := by
    funext a; fin_cases a <;> rfl
  rw [val_main_v18_apply, val_main_v17_apply, val_main_v16_apply, val_main_v15_apply, hi, val_main_v14_apply,
    val_main_v13_apply, val_main_cst_1_apply, max_at]
  generalize (val_main_v11 (F := Ideal) x0 (ix5 b h c r j)) = s
  generalize (Finset.univ.fold max ⊥ fun l => val_main_v11 (F := Ideal) x0 (ix5 b h c r l)) = t
  rw [← ofBits_neg_inf]
  rfl

/-- The softmax weight. -/
theorem div_at (x0 : Proj) (b : Fin 32) (h : Fin 4) (c : Fin 2) (r j : Fin 2048) :
    val_main_v22 (F := Ideal) x0 (ix5 b h c r j)
      = Ideal.div (val_main_v18 (F := Ideal) x0 (ix5 b h c r j)) (∑ l, val_main_v18 (F := Ideal) x0 (ix5 b h c r l)) := by
  unfold val_main_v22 val_main_v21 val_main_v20 val_main_v19
  generalize val_main_v18 (F := Ideal) x0 = s
  pointwise [val_main_cst_2]

/-- The factor of the second softmax. -/
theorem lam_at (x1 x2 x3 x4 : (⟨S1x64, .f32⟩ : BufTy).Contents (Elt Ideal)) (i : S_.Idx) :
    val_main_v34 (F := Ideal) x1 x2 x3 x4 i = lamOf (fun i => x1 (ix2 0 i)) (fun i => x2 (ix2 0 i))
      (fun i => x3 (ix2 0 i)) (fun i => x4 (ix2 0 i)) := by
  pointwise [val_main_v34, val_main_v33, val_main_v32, val_main_v31, val_main_v30, val_main_v29, val_main_v28, val_main_v27, val_main_v26, val_main_v25, val_main_v24, val_main_v23, val_main_cst_3, val_main_cst_4, val_main_cst_5]
  rfl

/-- The difference of the two softmaxes. -/
theorem attn_at (x0 : Proj) (x1 x2 x3 x4 : (⟨S1x64, .f32⟩ : BufTy).Contents (Elt Ideal)) (b : Fin 32) (h : Fin 4) (r j : Fin 2048) :
    val_main_v41 (F := Ideal) x0 x1 x2 x3 x4 (ix4 b h r j) = val_main_v22 (F := Ideal) x0 (ix5 b h 0 r j)
      - val_main_v34 (F := Ideal) x1 x2 x3 x4 ix0 * val_main_v22 (F := Ideal) x0 (ix5 b h 1 r j) := by
  have h0 : idx_main_v35 (idx_main_v36 (ix4 b h r j)) = ix5 b h 0 r j := by
    idx_ext
  have h1 : idx_main_v37 (idx_main_v38 (ix4 b h r j)) = ix5 b h 1 r j := by
    idx_ext
  rw [val_main_v41_apply, val_main_v40_apply, val_main_v39_apply, val_main_v38_apply, val_main_v37_apply, h1,
    val_main_v36_apply, val_main_v35_apply, h0, Subsingleton.elim (idx_main_v39 (ix4 b h r j)) ix0]
  rfl

/-- The weighted values. -/
theorem out_at (x0 : Proj) (x1 x2 x3 x4 : (⟨S1x64, .f32⟩ : BufTy).Contents (Elt Ideal)) (b : Fin 32) (h : Fin 4) (r : Fin 2048) (e : Fin 128) :
    val_main_v43 (F := Ideal) x0 x1 x2 x3 x4 (ix4 b r h e) = ∑ j, val_main_v41 (F := Ideal) x0 x1 x2 x3 x4 (ix4 b h r j)
      * x0 (ix3 b j ⟨2048 + (h * 128 + e), by omega⟩) := by
  unfold val_main_v43 val_main_v42
  generalize val_main_v41 (F := Ideal) x0 x1 x2 x3 x4 = s
  pointwise [val_main_v6, val_main_v5, val_main_v0]
  exact Finset.sum_congr rfl fun _ _ => mul_comm _ _

/-- The result. -/
theorem result_at (x0 : Proj) (x1 x2 x3 x4 : (⟨S1x64, .f32⟩ : BufTy).Contents (Elt Ideal)) (x5 : (⟨S1x128, .f32⟩ : BufTy).Contents (Elt Ideal)) (b : Fin 32) (r : Fin 2048) (h : Fin 4) (e : Fin 128) :
    val_main_v62 (F := Ideal) x0 x1 x2 x3 x4 x5 (ix3 b r ⟨h * 128 + e, by omega⟩) =
     finish (fun e => val_main_v43 (F := Ideal) x0 x1 x2 x3 x4 (ix4 b r h e)) (fun d => x5 (ix2 0 d)) (fun d => x0 (ix3 b r ⟨2560 + (h * 128 + d), by omega⟩)) e  := by
  unfold val_main_v62 val_main_v61 val_main_v60 val_main_v59 val_main_v57 val_main_v54 val_main_v53 val_main_v52 val_main_v51 val_main_v49 val_main_v47 val_main_v46 val_main_v45
  generalize val_main_v43 (F := Ideal) x0 x1 x2 x3 x4 = s
  pointwise [val_main_v58, val_main_cst_9, val_main_v56, val_main_v55, val_main_v50, val_main_cst_8, val_main_v48, val_main_cst_7,val_main_cst_6, val_main_v44, val_main_v7, val_main_v0]
  rfl

/-- The reference's result at a row, head and lane. -/
theorem ref_at (x0 : Proj) (x1 x2 x3 x4 : (⟨S1x64, .f32⟩ : BufTy).Contents (Elt Ideal))
    (x5 : (⟨S1x128, .f32⟩ : BufTy).Contents (Elt Ideal)) (b : Fin 32) (r : Fin 2048) (h : Fin 4) (e : Fin 128) :
    val_main_v62 (F := Ideal) x0 x1 x2 x3 x4 x5 (ix3 b r ⟨h * 128 + e, by omega⟩)
      = finish (mix (lamOf (fun i => x1 (ix2 0 i)) (fun i => x2 (ix2 0 i)) (fun i => x3 (ix2 0 i)) (fun i => x4 (ix2 0 i)))
          (fun d => x0 (ix3 b r ⟨1024 + (h * 128 + d), by omega⟩))
          (fun l d => x0 (ix3 b l ⟨1536 + (h * 128 + d), by omega⟩))
          (fun l d => x0 (ix3 b l ⟨2048 + (h * 128 + d), by omega⟩)))
          (fun d => x5 (ix2 0 d)) (fun d => x0 (ix3 b r ⟨2560 + (h * 128 + d), by omega⟩)) e := by
  rw [result_at]
  congr 1
  funext e
  rw [out_at]
  unfold mix
  refine Finset.sum_congr rfl fun j _ => ?_
  rw [attn_at, lam_at, div_at, div_at]
  simp only [exp_at, score_at]
  unfold weight scoreLo scoreHi
  simp only [Fin.val_zero, Fin.val_one, zero_mul, one_mul, add_zero, add_assoc]

end Cert.AttnBRefIdeal.Point
end
-- ==== Proof.ClaimB.lean ====
/-
  The claims of the differential-attention call: its runs end with the arguments unchanged and every semaphore at zero,
  and its result is the reference's.
-/
module

public import proofs.«01_k».proof.Defs
public import proofs.«01_k».proof.Proof.ValB
public import proofs.«01_k».proof.Proof.RefB
public import proofs.«01_k».proof.Proof.Gen.AttnB.Frame
public import proofs.«01_k».proof.Proof.Gen.AttnBRefIdeal.Run
public import proofs.«01_k».proof.Proof.Gen.Pre_finite_b

@[expose] public section

set_option maxRecDepth 16384

noncomputable section

open Idealize.ShloMosaic Idealize.ShloMosaic.TcCoe Idealize.SL.Sem

namespace Cert.ClaimB

open Cert.Soft Cert.DiffSpec

/-- An entry that is less than plus infinity in absolute value is real. -/
theorem real_of_pre (p : FVec Ideal Cert.Pre_finite_b.S32x2048x3328 .bf16) (a1 a2 a3 a4 : FVec Ideal Cert.Pre_finite_b.S1x64 .f32)
    (a5 : FVec Ideal Cert.Pre_finite_b.S1x128 .f32) (h : Cert.Pre_finite_b.fn (F := Ideal) p a1 a2 a3 a4 a5 = fun _ => 1#1)
    (x : Cert.Pre_finite_b.S32x2048x3328.Idx) : IsReal (p x) := by
  have hx := congrFun h x
  unfold Cert.Pre_finite_b.fn at hx
  have hx' : Ideal.cmp .olt (max (p x) (-p x)) (Ideal.ofBits .f32 0x7F800000#32) = 1#1 := hx
  rw [ofBits_inf] at hx'
  apply isReal_of_abs_lt
  by_contra hn
  unfold Ideal.cmp at hx'
  simp [hn] at hx'

/-- The kernel's result function is the reference's. -/
theorem res_eq (p : FVec Ideal Cert.AttnBIdeal.S32x2048x3328 .bf16) (a1 a2 a3 a4 : FVec Ideal Cert.AttnBIdeal.S1x64 .f32)
    (a5 : FVec Ideal Cert.AttnBIdeal.S1x128 .f32) :
    Cert.AttnBRefIdeal.Read.val_main_v62 (F := Ideal) p a1 a2 a3 a4 a5 = Cert.AttnBIdeal.Whole.RES p a1 a2 a3 a4 a5 := by
  funext j
  idx_vars j
  have e : j2 = ⟨(j2 : ℕ) / 128 * 128 + (j2 : ℕ) % 128, by omega⟩ := Fin.ext (Nat.div_add_mod' j2 128).symm
  have hj := Cert.AttnBRefIdeal.Point.ref_at p a1 a2 a3 a4 a5 j0 j1 ⟨(j2 : ℕ) / 128, by omega⟩ ⟨(j2 : ℕ) % 128, by omega⟩
  refine Eq.trans (congrArg _ (congrArg _ e)) (hj.trans ?_)
  rfl

/-- At exact arithmetic the kernel's result is the reference's, for a finite projection. -/
theorem algebraic : Cert.algebraic_AttnBIdeal_AttnBRefIdeal_pre_finite_b := by
  intro m g m' g' hpre hag
  have hfin := real_of_pre _ _ _ _ _ _ (hpre 0)
  refine ⟨fun c => (Cert.AttnBIdeal.Gen.dats m 0 c).arrAt 6 Cert.AttnBIdeal.cfg0.N, Cert.AttnBIdeal.Value.run_blocks m g, ?_⟩
  refine θ_run_mono (Cert.AttnBRefIdeal.Value.run m' g') fun r h c => ⟨(h c).1.trans ?_, (h c).2⟩
  obtain ⟨h0, h1, h2, h3, h4, h5⟩ := hag c
  rw [Cert.AttnBRefIdeal.Read.val_main_v62_eq, h0, h1, h2, h3, h4, h5]
  exact (res_eq _ _ _ _ _ _).trans (Cert.AttnBIdeal.Whole.final m hfin c).symm

/-- The kernel's run ends with its arguments unchanged and its semaphores at zero. -/
theorem frame : Cert.quiescent_AttnB := fun m g _ => Cert.AttnB.Gen.frame m g

/-- The same of its exact form. -/
theorem frameIdeal : Cert.quiescent_AttnBIdeal := fun m g _ => Cert.AttnBIdeal.Gen.frame m g

/-- The same of its exact form, for a finite projection. -/
theorem frameIdealPre : Cert.quiescent_AttnBIdeal_pre_finite_b := fun m g _ => Cert.AttnBIdeal.Gen.frame m g

/-- The reference's run ends with its arguments unchanged; it has no semaphore. -/
theorem frameRef : Cert.quiescent_AttnBRefIdeal := fun m g _ =>
  θ_run_mono (Cert.AttnBRefIdeal.Value.run m g) fun r h => ⟨fun c => (h c).2, sem_eq_zero_of_no_sems rfl r.2⟩

/-- The same for a finite projection. -/
theorem frameRefPre : Cert.quiescent_AttnBRefIdeal_pre_finite_b := fun m g _ =>
  θ_run_mono (Cert.AttnBRefIdeal.Value.run m g) fun r h => ⟨fun c => (h c).2, sem_eq_zero_of_no_sems rfl r.2⟩

end Cert.ClaimB

end
-- ==== Proof.SinkSpec.lean ====
/-
  Softmax with a sink over the keys of a window, for one row of scores: the exponentials over all keys, the scores outside
  the window at minus infinity, are the powers of two over a span of keys that holds the window.
-/
module

public import proofs.«01_k».proof.Proof.Soft

@[expose] public section

noncomputable section

open Idealize.ShloMosaic
open scoped BigOperators

namespace Cert.SinkSpec

open Cert.Soft

/-- A weighted sum of values by powers of two: each score above `M`, the sink above `M` joining the weights' sum. -/
def base2 {n : ℕ} (t v : Fin n → EReal) (sink M : EReal) : EReal :=
  Ideal.div (∑ l, Ideal.exp2 (t l - M) * v l) ((∑ l, Ideal.exp2 (t l - M)) + Ideal.exp2 (sink - M))

/-- The same by exponentials, each weight divided by the weights' sum. -/
def baseE {n : ℕ} (s v : Fin n → EReal) (sink M : EReal) : EReal :=
  ∑ l, Ideal.div (Ideal.exp (s l - M)) ((∑ k, Ideal.exp (s k - M)) + Ideal.exp (sink - M)) * v l

/-- The largest of a row whose entries are real or minus infinity and of a real sink is real. -/
theorem top_real {n : ℕ} (hn : 0 < n) (s : Fin n → EReal) (hs : ∀ l, IsReal (s l) ∨ s l = ⊥) (sink : EReal)
    (hk : IsReal sink) : IsReal (max (Finset.univ.fold max ⊥ s) sink) := by
  obtain ⟨i, hi⟩ := exists_largest hn s
  rw [fold_max_eq s i hi]
  rcases hs i with h | h
  · rcases max_choice (s i) sink with e | e <;> rw [e]
    · exact h
    · exact hk
  · rw [h, max_eq_right bot_le]
    exact hk

/-- The weight of a key: the exponential of its scaled score, or zero outside the window. -/
def wt (p : Prop) [Decidable p] (x : ℝ) : ℝ := if p then Real.exp (x * Real.log 2) else 0

theorem wt_nonneg (p : Prop) [Decidable p] (x : ℝ) : 0 ≤ wt p x := by
  unfold wt
  split
  · exact (Real.exp_pos _).le
  · exact le_rfl

/-- The power of two of a score above `M`. -/
theorem pow_eq (p : Prop) [Decidable p] (x M : ℝ) :
    Ideal.exp2 ((if p then (x : EReal) else ⊥) - (M : EReal)) = ((wt p x * Real.exp (-(M * Real.log 2)) : ℝ) : EReal) := by
  unfold wt
  split
  · rw [← EReal.coe_sub, exp2_eq_exp, ← Real.exp_add]
    congr 2
    ring
  · rw [EReal.bot_sub, zero_mul]
    exact Ideal.exp2_bot

/-- The exponential of a scaled score above `M`. -/
theorem exp_eq (p : Prop) [Decidable p] (x M : ℝ) :
    Ideal.exp ((if p then (x : EReal) * (Real.log 2 : ℝ) else ⊥) - (M : EReal)) = ((wt p x * Real.exp (-M) : ℝ) : EReal) := by
  unfold wt
  split
  · rw [← EReal.coe_mul, ← EReal.coe_sub, Ideal.exp_coe, ← Real.exp_add]
    congr 2
  · rw [EReal.bot_sub, zero_mul]
    exact Ideal.exp_bot

/-- A common factor leaves a quotient of reals. -/
theorem quot (a d e : ℝ) (hd : d ≠ 0) (he : e ≠ 0) :
    Ideal.div ((a * e : ℝ) : EReal) ((d * e : ℝ) : EReal) = ((a / d : ℝ) : EReal) := by
  rw [Ideal.div_coe (mul_ne_zero hd he), ← EReal.coe_mul]
  congr 1
  field_simp

/-- The powers of two's weighted sum does not depend on `M`. -/
theorem base2_eq {n : ℕ} (p : Fin n → Prop) [DecidablePred p] (x y : Fin n → ℝ) (σ M : ℝ) :
    base2 (fun l => if p l then (x l : EReal) else ⊥) (fun l => (y l : EReal)) ((σ * (Real.log 2)⁻¹ : ℝ) : EReal) M
      = (((∑ l, wt (p l) (x l) * y l) / ((∑ l, wt (p l) (x l)) + Real.exp σ) : ℝ) : EReal) := by
  have h2 : Real.log 2 ≠ 0 := (Real.log_pos (by norm_num)).ne'
  have hs : Ideal.exp2 (((σ * (Real.log 2)⁻¹ : ℝ) : EReal) - (M : EReal))
      = ((Real.exp σ * Real.exp (-(M * Real.log 2)) : ℝ) : EReal) := by
    rw [← EReal.coe_sub, exp2_eq_exp, ← Real.exp_add]
    congr 2
    field_simp
    ring
  unfold base2
  simp only [pow_eq, hs, ← EReal.coe_mul]
  rw [coe_sum, coe_sum, ← EReal.coe_add]
  have hp : 0 < (∑ l, wt (p l) (x l)) + Real.exp σ :=
    add_pos_of_nonneg_of_pos (Finset.sum_nonneg fun l _ => wt_nonneg _ _) (Real.exp_pos _)
  have e1 : (∑ l, wt (p l) (x l) * Real.exp (-(M * Real.log 2)) * y l)
      = (∑ l, wt (p l) (x l) * y l) * Real.exp (-(M * Real.log 2)) := by
    rw [Finset.sum_mul]
    exact Finset.sum_congr rfl fun l _ => by ring
  rw [← Finset.sum_mul, ← add_mul, e1, quot _ _ _ hp.ne' (Real.exp_pos _).ne']

/-- The exponentials' weighted sum does not depend on `M`. -/
theorem baseE_eq {n : ℕ} (p : Fin n → Prop) [DecidablePred p] (x y : Fin n → ℝ) (σ M : ℝ) :
    baseE (fun l => if p l then (x l : EReal) * (Real.log 2 : ℝ) else ⊥) (fun l => (y l : EReal)) (σ : EReal) M
      = (((∑ l, wt (p l) (x l) * y l) / ((∑ l, wt (p l) (x l)) + Real.exp σ) : ℝ) : EReal) := by
  have hs : Ideal.exp ((σ : EReal) - (M : EReal)) = ((Real.exp σ * Real.exp (-M) : ℝ) : EReal) := by
    rw [← EReal.coe_sub, Ideal.exp_coe, ← Real.exp_add]
    rfl
  unfold baseE
  simp only [exp_eq, hs]
  have hp : 0 < (∑ l, wt (p l) (x l)) + Real.exp σ :=
    add_pos_of_nonneg_of_pos (Finset.sum_nonneg fun l _ => wt_nonneg _ _) (Real.exp_pos _)
  rw [coe_sum, ← EReal.coe_add, ← Finset.sum_mul, ← add_mul]
  have e1 : ∀ l, Ideal.div ((wt (p l) (x l) * Real.exp (-M) : ℝ) : EReal)
        ((((∑ l, wt (p l) (x l)) + Real.exp σ) * Real.exp (-M) : ℝ) : EReal) * (y l : EReal)
      = ((wt (p l) (x l) * y l / ((∑ l, wt (p l) (x l)) + Real.exp σ) : ℝ) : EReal) := fun l => by
    rw [quot _ _ _ hp.ne' (Real.exp_pos _).ne', ← EReal.coe_mul]
    congr 1
    ring
  simp only [e1]
  rw [coe_sum, ← Finset.sum_div]

/-- A sum over all keys of terms that vanish outside a span is the sum over the span. -/
theorem sum_span (N n s : ℕ) (h : s + n ≤ N) (f : Fin N → ℝ) (hf : ∀ l : Fin N, ¬(s ≤ l.val ∧ l.val < s + n) → f l = 0) :
    ∑ l : Fin n, f ⟨s + l.val, by have := l.isLt; omega⟩ = ∑ l, f l := by
  refine Eq.trans ?_ (Finset.sum_subset (Finset.subset_univ
    (Finset.univ.map ⟨fun l : Fin n => (⟨s + l.val, by have := l.isLt; omega⟩ : Fin N),
      fun a b e => Fin.ext (by have := congrArg Fin.val e; simpa using this)⟩)) fun l _ hl => hf l fun hr => hl ?_)
  · rw [Finset.sum_map]
    rfl
  · rw [Finset.mem_map]
    exact ⟨⟨l.val - s, by omega⟩, Finset.mem_univ _, Fin.ext (by show s + (l.val - s) = l.val; omega)⟩

/-- The window's row of the kernel, over the span of `n` keys from `s`, is the row of the reference over all keys. -/
theorem span_eq (N n s : ℕ) (hn : 0 < n) (h : s + n ≤ N) (p : Fin N → Prop) [DecidablePred p]
    (hp : ∀ l : Fin N, p l → s ≤ l.val ∧ l.val < s + n) (x y : Fin N → EReal) (hx : ∀ l, IsReal (x l))
    (hy : ∀ l, IsReal (y l)) (sink : EReal) (hk : IsReal sink) (t v : Fin n → EReal)
    (ht : ∀ l : Fin n, t l = if p ⟨s + l.val, by have := l.isLt; omega⟩ then x ⟨s + l.val, by have := l.isLt; omega⟩ else ⊥)
    (hv : ∀ l : Fin n, v l = y ⟨s + l.val, by have := l.isLt; omega⟩) :
    base2 t v (sink * (((Real.log 2)⁻¹ : ℝ) : EReal))
        (max (Finset.univ.fold max ⊥ t) (sink * (((Real.log 2)⁻¹ : ℝ) : EReal)))
      = baseE (fun l => if p l then x l * (Real.log 2 : ℝ) else ⊥) y sink
          (max (Finset.univ.fold max ⊥ fun l => if p l then x l * (Real.log 2 : ℝ) else ⊥) sink) := by
  obtain rfl : t = _ := funext ht
  obtain rfl : v = _ := funext hv
  choose X hX using hx
  choose Y hY using hy
  obtain ⟨σ, rfl⟩ := hk
  obtain rfl : x = fun l => (X l : EReal) := funext hX
  obtain rfl : y = fun l => (Y l : EReal) := funext hY
  rw [← EReal.coe_mul]
  obtain ⟨M, hM⟩ := top_real hn (fun l : Fin n => if p ⟨s + l.val, by have := l.isLt; omega⟩
      then (X ⟨s + l.val, by have := l.isLt; omega⟩ : EReal) else ⊥) (fun l => by
        beta_reduce
        split
        · exact Or.inl ⟨_, rfl⟩
        · exact Or.inr rfl) ((σ * (Real.log 2)⁻¹ : ℝ) : EReal) ⟨_, rfl⟩
  obtain ⟨K, hK⟩ := top_real (by omega) (fun l : Fin N => if p l then (X l : EReal) * (Real.log 2 : ℝ) else ⊥) (fun l => by
        beta_reduce
        split
        · exact Or.inl ⟨_, (EReal.coe_mul _ _).symm⟩
        · exact Or.inr rfl) (σ : EReal) ⟨_, rfl⟩
  rw [hM, hK, baseE_eq p X Y σ K]
  refine (base2_eq (fun l : Fin n => p ⟨s + l.val, by have := l.isLt; omega⟩)
    (fun l => X ⟨s + l.val, by have := l.isLt; omega⟩) (fun l => Y ⟨s + l.val, by have := l.isLt; omega⟩) σ M).trans ?_
  have z : ∀ l : Fin N, ¬(s ≤ l.val ∧ l.val < s + n) → wt (p l) (X l) = 0 := fun l hl => by
    unfold wt
    exact if_neg fun q => hl (hp l q)
  rw [sum_span N n s h (fun l => wt (p l) (X l) * Y l) (fun l hl => by rw [z l hl, zero_mul]),
    sum_span N n s h (fun l => wt (p l) (X l)) z]

end Cert.SinkSpec

end
-- ==== Proof.WindowSpec.lean ====
/-
  The window of the windowed attention: which keys a query attends to, as the programs test it on words and as numbers, and
  the row of softmax over all keys with those outside the window at minus infinity.
-/
module

public import proofs.«01_k».proof.Proof.SinkSpec
public import Idealize.ShloMosaic.Lib.WordCmp

@[expose] public section

set_option maxRecDepth 16384

noncomputable section

open Idealize.ShloMosaic
open scoped BigOperators

namespace Cert.SinkSpec

open Cert.Soft

/-- Two positions are at most 128 apart. -/
def near (i j : ℕ) : Prop := i ≤ j + 128 ∧ j ≤ i + 128

instance (i j : ℕ) : Decidable (near i j) := inferInstanceAs (Decidable (_ ∧ _))

/-- A small word compared with 128. -/
theorem small_le (c : ℕ) (hc : c < 4096) (x y : EReal) :
    Scalar.select (IntOp.cmpi .sle (BitVec.ofNat 32 c) 128#32) x y = if c ≤ 128 then x else y := by
  word_cmp

/-- The absolute difference of two small words, compared with 128. -/
theorem abs_le (p k : ℕ) (hp : p < 4096) (hk : k < 4096) (x y : EReal) :
    Scalar.select (IntOp.cmpi .sle (IntOp.absi (IntOp.subi (BitVec.ofNat 32 p) (BitVec.ofNat 32 k))) 128#32) x y
      = if near p k then x else y := by
  have e : IntOp.absi (IntOp.subi (BitVec.ofNat 32 p) (BitVec.ofNat 32 k)) = BitVec.ofNat 32 (p - k + (k - p)) := by
    have hs : (BitVec.ofNat 32 p - BitVec.ofNat 32 k).toNat = (4294967296 - k + p) % 4294967296 := by
      rw [BitVec.toNat_sub, BitVec.toNat_ofNat, BitVec.toNat_ofNat]; omega
    show (if (BitVec.ofNat 32 p - BitVec.ofNat 32 k).msb then -(BitVec.ofNat 32 p - BitVec.ofNat 32 k)
      else BitVec.ofNat 32 p - BitVec.ofNat 32 k) = _
    apply BitVec.eq_of_toNat_eq
    rw [BitVec.msb_eq_decide, hs]
    by_cases h : k ≤ p
    · rw [if_neg (by simp only [decide_eq_true_eq]; omega), hs, BitVec.toNat_ofNat]; omega
    · rw [if_pos (by simp only [decide_eq_true_eq]; omega), BitVec.toNat_neg, hs, BitVec.toNat_ofNat]; omega
  rw [e, small_le _ (by omega)]
  have hn : near p k ↔ p - k + (k - p) ≤ 128 := by unfold near; omega
  by_cases h : near p k
  · rw [if_pos h, if_pos (hn.mp h)]
  · rw [if_neg h, if_neg fun h' => h (hn.mpr h')]

/-- One query of one head against all keys: exponentials, the scores far from the query at minus infinity. -/
def row (P : Fin 2048 → Prop) [DecidablePred P] (x y : Fin 2048 → EReal) (sink : EReal) : EReal :=
  baseE (fun l => if P l then x l * ((Real.log 2 : ℝ) : EReal) else ⊥) y sink
    (max (Finset.univ.fold max ⊥ fun l => if P l then x l * ((Real.log 2 : ℝ) : EReal) else ⊥) sink)

end Cert.SinkSpec

end
-- ==== Proof.HeadA.lean ====
/-
  What the windowed-attention body stores, read at an entry.  The block's queries are stacked in pairs of heads, two
  groups of 128 rows, and multiplied with the keys of one head in either half of the lanes; the stored pieces are two
  computations of that kind, joined at lane 64 and gated.
-/
module

public import proofs.«01_k».proof.Proof.WindowSpec
public import Idealize.ShloMosaic.Lib.Pipeline.ValueKit
public import proofs.«01_k».proof.Proof.Gen.AttnAIdeal.Skeleton

@[expose] public section

set_option maxRecDepth 16384

noncomputable section

namespace Cert.AttnAIdeal.Head

open Cert.AttnAIdeal Cert.AttnAIdeal.Gen Idealize.ShloMosaic Idealize.ShloMosaic.TcCoe Cert.Soft Cert.SinkSpec
open scoped BigOperators

/-- Two groups of query rows against one key matrix: masked scores, softmax with a sink in powers of two, values. -/
def pairOut (km vd : FVec Ideal S384x128 .bf16) (w : IVec S256x384 1) (q : FVec Ideal S256x128 .bf16) (a b : Elt Ideal .f32) :
    FVec Ideal S256x128 .f32 := k0_pay24 km vd w q a b

/-- A stored piece of the first group of rows. -/
def lowTile (kA kB vd : FVec Ideal S384x128 .bf16) (w : IVec S256x384 1) (q : FVec Ideal S256x128 .bf16)
    (a b a' b' : Elt Ideal .f32) (g : Vec Ideal S1x128x128 .bf16) : FVec Ideal S1x128x128 .bf16 :=
  k0_pay25 kB vd w k0_pay15 q (pairOut kA vd w q a b) a' b' g

/-- A stored piece of the second group of rows. -/
def highTile (kA kB vd : FVec Ideal S384x128 .bf16) (w : IVec S256x384 1) (q : FVec Ideal S256x128 .bf16)
    (a b a' b' : Elt Ideal .f32) (g : Vec Ideal S1x128x128 .bf16) : FVec Ideal S1x128x128 .bf16 :=
  k0_pay1 (k0_pay26 kB vd w k0_pay15 q (pairOut kA vd w q a b) a' b') g

/-- The piece of columns 0 to 127. -/
theorem piece0 (kA kB vd : FVec Ideal S384x128 .bf16) (s : BitVec 32) (x y : IVec S256x384 32)
    (q0 q1 : Vec Ideal S1x128x128 .bf16) (a b a' b' : Elt Ideal .f32) (g : Vec Ideal S1x128x128 .bf16) :
    k0_pay19 kB vd (k0_pay14 s x y) k0_pay15 (k0_pay16 q0 q1) (k0_pay17 s kA vd x y q0 q1 a b)
        (constant S256x384 FTy.f32 0#32) a' b' g
      = lowTile kA kB vd (k0_pay14 s x y) (k0_pay16 q0 q1) a b a' b' g := rfl

/-- The piece of columns 128 to 255. -/
theorem piece1 (kA kB vd : FVec Ideal S384x128 .bf16) (s : BitVec 32) (x y : IVec S256x384 32)
    (q0 q1 : Vec Ideal S1x128x128 .bf16) (a b a' b' : Elt Ideal .f32) (g : Vec Ideal S1x128x128 .bf16) :
    k0_pay21 (k0_pay20 kB vd (k0_pay14 s x y) k0_pay15 (k0_pay16 q0 q1) (k0_pay17 s kA vd x y q0 q1 a b)
        (constant S256x384 FTy.f32 0#32) a' b') g
      = highTile kA kB vd (k0_pay14 s x y) (k0_pay16 q0 q1) a b a' b' g := rfl

/-- The piece of columns 256 to 383. -/
theorem piece2 (kA kB vd : FVec Ideal S384x128 .bf16) (s : BitVec 32) (x y : IVec S256x384 32)
    (q0 q1 : Vec Ideal S1x128x128 .bf16) (a b a' b' : Elt Ideal .f32) (g : Vec Ideal S1x128x128 .bf16) :
    k0_pay25 kB vd (k0_pay14 s x y) k0_pay15 (k0_pay22 q0 q1) (k0_pay23 kA vd (k0_pay14 s x y) q0 q1 a b) a' b' g
      = lowTile kA kB vd (k0_pay14 s x y) (k0_pay16 q0 q1) a b a' b' g := rfl

/-- The piece of columns 384 to 511. -/
theorem piece3 (kA kB vd : FVec Ideal S384x128 .bf16) (s : BitVec 32) (x y : IVec S256x384 32)
    (q0 q1 : Vec Ideal S1x128x128 .bf16) (a b a' b' : Elt Ideal .f32) (g : Vec Ideal S1x128x128 .bf16) :
    k0_pay1 (k0_pay26 kB vd (k0_pay14 s x y) k0_pay15 (k0_pay22 q0 q1) (k0_pay23 kA vd (k0_pay14 s x y) q0 q1 a b) a' b') g
      = highTile kA kB vd (k0_pay14 s x y) (k0_pay16 q0 q1) a b a' b' g := rfl

/-- The lane test of the body, at a lane. -/
theorem lane_lt (i d : Fin 128) (x y : EReal) :
    Scalar.select ((k0_pay15 : IVec S128x128 1) (ix2 i d)) x y = if (d : ℕ) < 64 then x else y := by
  have hd := d.isLt
  pointwise [k0_pay15]
  word_cmp

/-- The first group's piece at an entry. -/
theorem lowTile_at (kA kB vd : FVec Ideal S384x128 .bf16) (w : IVec S256x384 1) (q : FVec Ideal S256x128 .bf16)
    (a b a' b' : Elt Ideal .f32) (g : Vec Ideal S1x128x128 .bf16) (i d : Fin 128) :
    lowTile kA kB vd w q a b a' b' g (ix3 0 i d)
      = (if (d : ℕ) < 64 then pairOut kA vd w q a b (ix2 ⟨i.val, by omega⟩ d)
          else pairOut kB vd w q a' b' (ix2 ⟨i.val, by omega⟩ d)) * g (ix3 0 i d) := by
  rw [← lane_lt i d]
  unfold lowTile k0_pay25
  have h : k0_pay24 kB vd w q a' b' = pairOut kB vd w q a' b' := rfl
  rw [h]
  generalize pairOut kA vd w q a b = oA
  generalize pairOut kB vd w q a' b' = oB
  generalize (k0_pay15 : IVec S128x128 1) = t
  pointwise

/-- The second group's piece at an entry. -/
theorem highTile_at (kA kB vd : FVec Ideal S384x128 .bf16) (w : IVec S256x384 1) (q : FVec Ideal S256x128 .bf16)
    (a b a' b' : Elt Ideal .f32) (g : Vec Ideal S1x128x128 .bf16) (i d : Fin 128) :
    highTile kA kB vd w q a b a' b' g (ix3 0 i d)
      = (if (d : ℕ) < 64 then pairOut kA vd w q a b (ix2 ⟨128 + i.val, by omega⟩ d)
          else pairOut kB vd w q a' b' (ix2 ⟨128 + i.val, by omega⟩ d)) * g (ix3 0 i d) := by
  rw [← lane_lt i d]
  unfold highTile k0_pay26
  have h : k0_pay24 kB vd w q a' b' = pairOut kB vd w q a' b' := rfl
  rw [h]
  generalize pairOut kA vd w q a b = oA
  generalize pairOut kB vd w q a' b' = oB
  generalize (k0_pay15 : IVec S128x128 1) = t
  pointwise [k0_pay1]

/-- The exponential the body takes is a power of two. -/
theorem exp2_def (x : EReal) : FloatOps.exp2 (F := Ideal) (φ := .f32) x = Ideal.exp2 x := rfl

/-- The factor on the sink. -/
theorem log2e : Named.named (F := Ideal) Cert.AttnAIdeal.κ "log2e" (φ := .f32) 0x3FB8AA3B#32
    = (((Real.log 2)⁻¹ : ℝ) : EReal) := IdealRules.named_const.ideal_named_scalar _ _ _ _ rfl

/-- The masked score. -/
theorem mask : Named.named (F := Ideal) Cert.AttnAIdeal.κ "mask" (φ := .f32) 0xF149F2CA#32
    = (⊥ : EReal) := IdealRules.named_const.ideal_named_scalar _ _ _ _ rfl

/-- The test between the groups' sinks, at a row. -/
theorem group_lt (r : Fin 256) (x y : EReal) :
    Scalar.select (IntOp.cmpi .slt (BitVec.ofNat 32 r.val) 128#32) x y = if (r : ℕ) < 128 then x else y := by
  have hr := r.isLt
  word_cmp

/-- The two groups' computation at a row and a lane. -/
theorem pairOut_at (km vd : FVec Ideal S384x128 .bf16) (w : IVec S256x384 1) (q : FVec Ideal S256x128 .bf16)
    (a b : EReal) (r : Fin 256) (d : Fin 128) :
    pairOut km vd w q a b (ix2 r d)
      = base2 (fun j : Fin 384 => Scalar.select (w (ix2 r j)) (∑ e : Fin 128, q (ix2 r e) * km (ix2 j e)) ⊥)
          (fun j => vd (ix2 j d)) ((if (r : ℕ) < 128 then a else b) * (((Real.log 2)⁻¹ : ℝ) : EReal))
          (max (Finset.univ.fold max ⊥ fun j : Fin 384 =>
              Scalar.select (w (ix2 r j)) (∑ e : Fin 128, q (ix2 r e) * km (ix2 j e)) ⊥)
            ((if (r : ℕ) < 128 then a else b) * (((Real.log 2)⁻¹ : ℝ) : EReal))) := by
  unfold pairOut
  pointwise [k0_pay24]
  simp only [group_lt, log2e, mask, ofBits_neg_inf, exp2_def]
  rfl

/-- The start of the block's span of keys, as the body computes it. -/
def startWord (n : ℕ) : BitVec 32 :=
  Scalar.minsi 1664#32 (Scalar.maxsi 0#32 (Scalar.subi (Scalar.muli (BitVec.ofNat 32 n) 128#32) 128#32))

/-- The start of the block's span of keys. -/
def start (n : ℕ) : ℕ := min 1664 (n * 128 - 128)

/-- The word is the number. -/
theorem startWord_eq (n : Fin 16) : startWord n.val = BitVec.ofNat 32 (start n.val) := by
  revert n; decide +kernel

/-- The low seven bits of a row's number. -/
theorem row_word (r : Fin 256) : IntOp.andi (BitVec.ofNat 32 r.val) 127#32 = BitVec.ofNat 32 (r.val % 128) := by
  revert r; decide +kernel

/-- The mask of the body at a row and a key of the span. -/
theorem mask_at (i : grid0.Coords) (r : Fin 256) (j : Fin 384) (x y : EReal) :
    Scalar.select (k0_pay14 (startWord (i 1).val) (k0_pay13 i) (iota .tc S256x384 32 [1] iota_S256x384_d1_w32) (ix2 r j)) x y
      = if near ((i 1).val * 128 + r.val % 128) (start (i 1).val + j.val) then x else y := by
  have h1 : (i 1).val < 16 := (i 1).isLt
  have hq : IntOp.addi (IntOp.muli (BitVec.ofNat 32 (i 1).val) 128#32) (IntOp.andi (BitVec.ofNat 32 r.val) 127#32)
      = BitVec.ofNat 32 ((i 1).val * 128 + r.val % 128) := by
    rw [row_word]
    apply BitVec.eq_of_toNat_eq
    simp only [IntOp.addi, IntOp.muli, BitVec.toNat_add, BitVec.toNat_mul, BitVec.toNat_ofNat]
    omega
  have hk : IntOp.addi (startWord (i 1).val) (BitVec.ofNat 32 j.val) = BitVec.ofNat 32 (start (i 1).val + j.val) := by
    rw [startWord_eq (i 1)]
    apply BitVec.eq_of_toNat_eq
    simp only [IntOp.addi, BitVec.toNat_add, BitVec.toNat_ofNat]
    omega
  rw [← abs_le _ _ (by omega) (by unfold start; omega), ← hq, ← hk]
  generalize startWord (i 1).val = s
  pointwise [k0_pay14, k0_pay13]
  rfl

/-- The stacked queries at a row of the first group. -/
theorem q_low (q0 q1 : Vec Ideal S1x128x128 .bf16) (i d : Fin 128) :
    k0_pay16 q0 q1 (ix2 ⟨i.val, by omega⟩ d) = q0 (ix3 0 i d) := by
  have hi := i.isLt
  pointwise [k0_pay16]

/-- The stacked queries at a row of the second group. -/
theorem q_high (q0 q1 : Vec Ideal S1x128x128 .bf16) (i d : Fin 128) :
    k0_pay16 q0 q1 (ix2 ⟨128 + i.val, by omega⟩ d) = q1 (ix3 0 i d) := by
  have hi := i.isLt
  pointwise [k0_pay16]

/-- The lane test of the key and value matrices. -/
theorem lane4 (j : Fin 384) (d : Fin 128) (x y : EReal) :
    Scalar.select ((k0_pay4 : IVec S384x128 1) (ix2 j d)) x y = if (d : ℕ) < 64 then x else y := by
  have hd := d.isLt
  pointwise [k0_pay4]
  word_cmp

/-- The keys of the span. -/
theorem plain_at (k : Vec Ideal S1x384x128 .bf16) (j : Fin 384) (d : Fin 128) : k0_pay2 k (ix2 j d) = k (ix3 0 j d) := by
  pointwise [k0_pay2]

/-- The values of the span. -/
theorem plainV_at (k : Vec Ideal S1x384x128 .bf16) (j : Fin 384) (d : Fin 128) : k0_pay3 k (ix2 j d) = k (ix3 0 j d) := by
  pointwise [k0_pay3]

/-- The keys of the span, their lanes turned by half. -/
theorem turn_at (k : Vec Ideal S1x384x128 .bf16) (j : Fin 384) (d : Fin 128) :
    k0_pay5 k (ix2 j d) = k (ix3 0 j ⟨(d.val + 64) % 128, by omega⟩) := by
  have h : (⟨(d.val + 128 - 64) % 128, by omega⟩ : Fin 128) = ⟨(d.val + 64) % 128, by omega⟩ :=
    Fin.ext (by show (d.val + 128 - 64) % 128 = (d.val + 64) % 128; omega)
  pointwise [k0_pay5]
  rw [plain_at, h]

/-- The values of the span, their lanes turned by half. -/
theorem turnV_at (k : Vec Ideal S1x384x128 .bf16) (j : Fin 384) (d : Fin 128) :
    k0_pay6 k (ix2 j d) = k (ix3 0 j ⟨(d.val + 64) % 128, by omega⟩) := by
  have h : (⟨(d.val + 128 - 64) % 128, by omega⟩ : Fin 128) = ⟨(d.val + 64) % 128, by omega⟩ :=
    Fin.ext (by show (d.val + 128 - 64) % 128 = (d.val + 64) % 128; omega)
  pointwise [k0_pay6]
  rw [plainV_at, h]

/-- Products with a matrix that is zero in the second half of the lanes. -/
theorem sum_even (Q A : Fin 128 → EReal) :
    ∑ e : Fin 128, Q e * (if (e : ℕ) < 64 then A e else 0)
      = ∑ e : Fin 64, Q ⟨e.val, by omega⟩ * A ⟨e.val, by omega⟩ := by
  rw [Fin.sum_univ_two_halves 64 64 rfl]
  have h : ∀ d : Fin 64, ¬(64 + (d : ℕ) < 64) := fun d => by omega
  simp only [Fin.is_lt, if_true, h, if_false, mul_zero, Finset.sum_const_zero, add_zero]

/-- Products with a matrix that is zero in the first half of the lanes. -/
theorem sum_odd (Q A : Fin 128 → EReal) :
    ∑ e : Fin 128, Q e * (if (e : ℕ) < 64 then 0 else A e)
      = ∑ e : Fin 64, Q ⟨64 + e.val, by omega⟩ * A ⟨64 + e.val, by omega⟩ := by
  rw [Fin.sum_univ_two_halves 64 64 rfl]
  have h : ∀ d : Fin 64, ¬(64 + (d : ℕ) < 64) := fun d => by omega
  simp only [Fin.is_lt, if_true, h, if_false, mul_zero, Finset.sum_const_zero, zero_add]

/-- The first half turned. -/
theorem turn_lo (e : Fin 64) : (⟨((⟨e.val, by omega⟩ : Fin 128).val + 64) % 128, by omega⟩ : Fin 128) = ⟨64 + e.val, by omega⟩ :=
  Fin.ext (by show (e.val + 64) % 128 = 64 + e.val; omega)

/-- The second half turned. -/
theorem turn_hi (e : Fin 64) : (⟨((⟨64 + e.val, by omega⟩ : Fin 128).val + 64) % 128, by omega⟩ : Fin 128) = ⟨e.val, by omega⟩ :=
  Fin.ext (by show (64 + e.val + 64) % 128 = e.val; omega)

/-- Scores of the even heads against the first key head. -/
theorem score7 (Q : Fin 128 → EReal) (k : Vec Ideal S1x384x128 .bf16) (j : Fin 384) :
    ∑ e : Fin 128, Q e * k0_pay7 k (ix2 j e)
      = ∑ e : Fin 64, Q ⟨e.val, by omega⟩ * k (ix3 0 j ⟨e.val, by omega⟩) := by
  have h : ∀ e : Fin 128, k0_pay7 k (ix2 j e) = if (e : ℕ) < 64 then k (ix3 0 j e) else 0 := fun e => by
    rw [← lane4 j e, ← plain_at k j e]; pointwise [k0_pay7]
  simp only [h]
  exact sum_even Q fun e => k (ix3 0 j e)

/-- Scores of the even heads against the second key head. -/
theorem score8 (Q : Fin 128 → EReal) (k : Vec Ideal S1x384x128 .bf16) (j : Fin 384) :
    ∑ e : Fin 128, Q e * k0_pay8 k (ix2 j e)
      = ∑ e : Fin 64, Q ⟨e.val, by omega⟩ * k (ix3 0 j ⟨64 + e.val, by omega⟩) := by
  have h : ∀ e : Fin 128, k0_pay8 k (ix2 j e)
      = if (e : ℕ) < 64 then k (ix3 0 j ⟨(e.val + 64) % 128, by omega⟩) else 0 := fun e => by
    rw [← lane4 j e, ← turn_at k j e]; pointwise [k0_pay8]
  simp only [h]
  refine (sum_even Q fun e => k (ix3 0 j ⟨(e.val + 64) % 128, by omega⟩)).trans ?_
  exact Finset.sum_congr rfl fun e _ => by rw [turn_lo]

/-- Scores of the odd heads against the first key head. -/
theorem score9 (Q : Fin 128 → EReal) (k : Vec Ideal S1x384x128 .bf16) (j : Fin 384) :
    ∑ e : Fin 128, Q e * k0_pay9 k (ix2 j e)
      = ∑ e : Fin 64, Q ⟨64 + e.val, by omega⟩ * k (ix3 0 j ⟨e.val, by omega⟩) := by
  have h : ∀ e : Fin 128, k0_pay9 k (ix2 j e)
      = if (e : ℕ) < 64 then 0 else k (ix3 0 j ⟨(e.val + 64) % 128, by omega⟩) := fun e => by
    rw [← lane4 j e, ← turn_at k j e]; pointwise [k0_pay9]
  simp only [h]
  refine (sum_odd Q fun e => k (ix3 0 j ⟨(e.val + 64) % 128, by omega⟩)).trans ?_
  exact Finset.sum_congr rfl fun e _ => by rw [turn_hi]

/-- Scores of the odd heads against the second key head. -/
theorem score10 (Q : Fin 128 → EReal) (k : Vec Ideal S1x384x128 .bf16) (j : Fin 384) :
    ∑ e : Fin 128, Q e * k0_pay10 k (ix2 j e)
      = ∑ e : Fin 64, Q ⟨64 + e.val, by omega⟩ * k (ix3 0 j ⟨64 + e.val, by omega⟩) := by
  have h : ∀ e : Fin 128, k0_pay10 k (ix2 j e) = if (e : ℕ) < 64 then 0 else k (ix3 0 j e) := fun e => by
    rw [← lane4 j e, ← plain_at k j e]; pointwise [k0_pay10]
  simp only [h]
  exact sum_odd Q fun e => k (ix3 0 j e)

/-- The first value head, in both halves of the lanes. -/
theorem val11 (v : Vec Ideal S1x384x128 .bf16) (j : Fin 384) (d : Fin 128) :
    k0_pay11 v (ix2 j d) = v (ix3 0 j ⟨d.val % 64, by omega⟩) := by
  have h : k0_pay11 v (ix2 j d)
      = if (d : ℕ) < 64 then v (ix3 0 j d) else v (ix3 0 j ⟨(d.val + 64) % 128, by omega⟩) := by
    rw [← lane4 j d, ← plainV_at v j d, ← turnV_at v j d]; pointwise [k0_pay11]
  rw [h]
  split
  · exact congrArg (fun x => v (ix3 0 j x)) (Fin.ext (by show d.val = d.val % 64; omega))
  · exact congrArg (fun x => v (ix3 0 j x)) (Fin.ext (by show (d.val + 64) % 128 = d.val % 64; omega))

/-- The second value head, in both halves of the lanes. -/
theorem val12 (v : Vec Ideal S1x384x128 .bf16) (j : Fin 384) (d : Fin 128) :
    k0_pay12 v (ix2 j d) = v (ix3 0 j ⟨64 + d.val % 64, by omega⟩) := by
  have h : k0_pay12 v (ix2 j d)
      = if (d : ℕ) < 64 then v (ix3 0 j ⟨(d.val + 64) % 128, by omega⟩) else v (ix3 0 j d) := by
    rw [← lane4 j d, ← plainV_at v j d, ← turnV_at v j d]; pointwise [k0_pay12]
  rw [h]
  split
  · exact congrArg (fun x => v (ix3 0 j x)) (Fin.ext (by show (d.val + 64) % 128 = 64 + d.val % 64; omega))
  · exact congrArg (fun x => v (ix3 0 j x)) (Fin.ext (by show d.val = 64 + d.val % 64; omega))

/-- The keys near a query of the block lie in the block's span. -/
theorem near_span (n i l : ℕ) (hn : n < 16) (hi : i < 128) (hl : l < 2048) (h : near (n * 128 + i) l) :
    start n ≤ l ∧ l < start n + 384 := by
  unfold near at h; unfold start; omega

/-- The body's computation at a row and a lane is softmax over all keys. -/
theorem pairOut_row (c : grid0.Coords) (km vd : FVec Ideal S384x128 .bf16) (q : FVec Ideal S256x128 .bf16)
    (a b : EReal) (r : Fin 256) (d : Fin 128) (x y : Fin 2048 → EReal) (hx : ∀ l, IsReal (x l)) (hy : ∀ l, IsReal (y l))
    (sink : EReal) (hk : IsReal sink) (he : (if (r : ℕ) < 128 then a else b) = sink)
    (hst : start (c 1).val + 384 ≤ 2048)
    (hs : ∀ j : Fin 384, ∑ e : Fin 128, q (ix2 r e) * km (ix2 j e) = x ⟨start (c 1).val + j.val, by omega⟩)
    (hv : ∀ j : Fin 384, vd (ix2 j d) = y ⟨start (c 1).val + j.val, by omega⟩) :
    pairOut km vd (k0_pay14 (startWord (c 1).val) (k0_pay13 c) (iota .tc S256x384 32 [1] iota_S256x384_d1_w32)) q a b (ix2 r d)
      = row (fun l => near ((c 1).val * 128 + r.val % 128) l.val) x y sink := by
  have hc : (c 1).val < 16 := (c 1).isLt
  rw [pairOut_at, he]
  simp only [hs, hv]
  exact span_eq 2048 384 (start (c 1).val) (by omega) hst
    (fun l => near ((c 1).val * 128 + r.val % 128) l.val)
    (fun l h => near_span _ _ l.val hc (by omega) l.isLt h) x y hx hy sink hk _ _
    (fun l => mask_at c r l _ _) (fun l => rfl)

end Cert.AttnAIdeal.Head

end
-- ==== Proof.ValA.lean ====
/-
  The windowed-attention kernel's result as one function of its arguments: what each grid point writes back is the head's
  row of the specification at the block's coordinates.
-/
module

public import proofs.«01_k».proof.Proof.HeadA
public import proofs.«01_k».proof.Proof.Gen.AttnAIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AttnAIdeal.Whole

open Cert.AttnAIdeal Cert.AttnAIdeal.Gen Cert.AttnAIdeal.Head Cert.Soft Cert.SinkSpec

variable (m : (ℓ : Loc nD τ sig) → Buf (Elt Ideal) ℓ)

/-- The result at one batch entry, query, head and lane. -/
def cell (proj : FVec Ideal S32x2048x3328 .bf16) (sink : FVec Ideal S1x8 .f32) (b : Fin 32) (r : Fin 2048) (h : Fin 8) (e : Fin 64) :
    EReal :=
  row (fun l => near r.val l.val)
      (fun l => ∑ d : Fin 64, proj (ix3 b r ⟨h * 64 + d, by omega⟩) * proj (ix3 b l ⟨3072 + (h / 4 * 64 + d), by omega⟩))
      (fun l => proj (ix3 b l ⟨3200 + (h / 4 * 64 + e), by omega⟩)) (sink (ix2 0 h))
    * proj (ix3 b r ⟨512 + (h * 64 + e), by omega⟩)

/-- The result from the two arguments. -/
def RES (proj : FVec Ideal S32x2048x3328 .bf16) (sink : FVec Ideal S1x8 .f32) : FVec Ideal S32x2048x512 .bf16 := fun i =>
  cell proj sink (i 0) (i 1) ⟨(i 2 : ℕ) / 64, by have h : (i 2 : ℕ) < 512 := (i 2).isLt; omega⟩
    ⟨(i 2 : ℕ) % 64, by omega⟩

/-- Every window's block index at every grid point. -/
theorem idx : ∀ t : Fin cfg0.N, win0_0.index t = ![0] ∧ win0_1.index t = ![t.val / 16, t.val % 16, 0]
    ∧ win0_2.index t = ![t.val / 16, 0, 24] ∧ win0_3.index t = ![t.val / 16, 0, 25]
    ∧ win0_4.index t = ![t.val / 16, t.val % 16, 1] ∧ win0_5.index t = ![t.val / 16, t.val % 16, 0] :=
  (by decide +kernel : ∀ t : Fin grid0.N, _)

/-- The block's place along the queries. -/
theorem coord : ∀ t : Fin cfg0.N, (grid0.coords t 1).val = t.val % 16 :=
  (by decide +kernel : ∀ t : Fin grid0.N, _)

/-- The query block at a grid point. -/
theorem q_blk (c : Dev nD) (t : Fin cfg0.N) (i : Fin 128) (d : Fin 512) (b : Fin 32) (n : Fin 16)
    (hb : (b : ℕ) = t.val / 16) (hn : (n : ℕ) = t.val % 16) :
    X0_1 m c t (ix3 0 i d) = m ((c : Thread nD τ).loc main_arg0) (ix3 b ⟨n * 128 + i, by omega⟩ ⟨d, by omega⟩) := by
  unfold X0_1 Pipeline.Window.fill
  rw [dif_pos (moved0_1 t _)]
  blk_point [iblk, V, idx t]

/-- The gate block at a grid point. -/
theorem gate_blk (c : Dev nD) (t : Fin cfg0.N) (i : Fin 128) (d : Fin 512) (b : Fin 32) (n : Fin 16)
    (hb : (b : ℕ) = t.val / 16) (hn : (n : ℕ) = t.val % 16) :
    X0_4 m c t (ix3 0 i d) = m ((c : Thread nD τ).loc main_arg0) (ix3 b ⟨n * 128 + i, by omega⟩ ⟨512 + d, by omega⟩) := by
  unfold X0_4 Pipeline.Window.fill
  rw [dif_pos (moved0_4 t _)]
  blk_point [iblk, V, idx t]

/-- The key block at a grid point. -/
theorem k_blk (c : Dev nD) (t : Fin cfg0.N) (l : Fin 2048) (d : Fin 128) (b : Fin 32) (hb : (b : ℕ) = t.val / 16) :
    iblk m c 2 t (ix3 0 l d) = m ((c : Thread nD τ).loc main_arg0) (ix3 b l ⟨3072 + d, by omega⟩) := by
  blk_point [iblk, V, idx t]

/-- The value block at a grid point. -/
theorem v_blk (c : Dev nD) (t : Fin cfg0.N) (l : Fin 2048) (d : Fin 128) (b : Fin 32) (hb : (b : ℕ) = t.val / 16) :
    iblk m c 3 t (ix3 0 l d) = m ((c : Thread nD τ).loc main_arg0) (ix3 b l ⟨3200 + d, by omega⟩) := by
  blk_point [iblk, V, idx t]

/-- The sinks the host flattens. -/
theorem sink_V (c : Dev nD) (h : Fin 8) : V m c main_v0 (ix1 h) = m ((c : Thread nD τ).loc main_arg1) (ix2 0 h) := by
  unfold V
  after_results
  pointwise

/-- The sinks at a grid point. -/
theorem sink_blk (c : Dev nD) (t : Fin cfg0.N) (h : Fin 8) :
    iblk m c 0 t (ix1 h) = m ((c : Thread nD τ).loc main_arg1) (ix2 0 h) := by
  refine Eq.trans (b := V m c main_v0 (ix1 h)) ?_ (sink_V m c h)
  unfold iblk
  blk_ext [idx t]

/-- Where the span of keys starts at a grid point. -/
theorem off_eq : ∀ t : Fin cfg0.N, k0_off1 (grid0.coords t) = ![0, start (t.val % 16), 0] :=
  (by decide +kernel : ∀ t : Fin grid0.N, _)

/-- A key of the span at a grid point. -/
theorem k_span (t : Fin cfg0.N) (j : Fin 384) (d : Fin 128) (b : Fin 32) (hb : (b : ℕ) = t.val / 16) (hs : start (t.val % 16) + 384 ≤ 2048)
    (hin : ∀ a, k0_off1 (grid0.coords t) a + ![1, 384, 128] a ≤ S1x2048x128.size a) :
    View.ld (iblk m 0 2 t) (Rect.unit (s := S1x2048x128) (k0_off1 (grid0.coords t)) ![1, 384, 128] hin) (ix3 0 j d)
      = m (((0 : Dev nD) : Thread nD τ).loc main_arg0) (ix3 b ⟨start (t.val % 16) + j.val, by omega⟩ ⟨3072 + d, by omega⟩) := by
  refine Eq.trans (b := iblk m 0 2 t (ix3 0 ⟨start (t.val % 16) + j.val, by omega⟩ d)) ?_ (k_blk m 0 t _ d b hb)
  revert hin
  rw [off_eq t]
  intro hin
  pointwise

/-- A value of the span at a grid point. -/
theorem v_span (t : Fin cfg0.N) (j : Fin 384) (d : Fin 128) (b : Fin 32) (hb : (b : ℕ) = t.val / 16) (hs : start (t.val % 16) + 384 ≤ 2048)
    (hin : ∀ a, k0_off1 (grid0.coords t) a + ![1, 384, 128] a ≤ S1x2048x128.size a) :
    View.ld (iblk m 0 3 t) (Rect.unit (s := S1x2048x128) (k0_off1 (grid0.coords t)) ![1, 384, 128] hin) (ix3 0 j d)
      = m (((0 : Dev nD) : Thread nD τ).loc main_arg0) (ix3 b ⟨start (t.val % 16) + j.val, by omega⟩ ⟨3200 + d, by omega⟩) := by
  refine Eq.trans (b := iblk m 0 3 t (ix3 0 ⟨start (t.val % 16) + j.val, by omega⟩ d)) ?_ (v_blk m 0 t _ d b hb)
  revert hin
  rw [off_eq t]
  intro hin
  pointwise

/-- The mask of the block at a grid point. -/
abbrev maskOf (t : Fin cfg0.N) : IVec S256x384 1 :=
  k0_pay14 (startWord (grid0.coords t 1).val) (k0_pay13 (grid0.coords t)) (iota .tc S256x384 32 [1] iota_S256x384_d1_w32)

/-- One query, head and lane before the gate. -/
def rowAt (proj : FVec Ideal S32x2048x3328 .bf16) (sink : FVec Ideal S1x8 .f32) (b : Fin 32) (r : Fin 2048) (h : Fin 8) (e : Fin 64) :
    EReal :=
  row (fun l => near r.val l.val)
      (fun l => ∑ d : Fin 64, proj (ix3 b r ⟨h * 64 + d, by omega⟩) * proj (ix3 b l ⟨3072 + (h / 4 * 64 + d), by omega⟩))
      (fun l => proj (ix3 b l ⟨3200 + (h / 4 * 64 + e), by omega⟩)) (sink (ix2 0 h))

/-- The span fits in the sequence. -/
theorem start_le (n : ℕ) : start n + 384 ≤ 2048 := by unfold start; omega

/-- The body's computation at a row and a lane, for slices that are the projection's columns there. -/
theorem row_core (proj : FVec Ideal S32x2048x3328 .bf16) (sink : FVec Ideal S1x8 .f32) (hfin : ∀ x, IsReal (proj x))
    (hsink : ∀ x, IsReal (sink x)) (t : Fin cfg0.N) (b : Fin 32) (i d : Fin 128) (h : Fin 8) (r : Fin 256) (hr : r.val % 128 = i.val)
    (km vd : FVec Ideal S384x128 .bf16) (q : FVec Ideal S256x128 .bf16) (a a' : EReal)
    (he : (if (r : ℕ) < 128 then a else a') = sink (ix2 0 h))
    (hs : ∀ j : Fin 384, ∑ e : Fin 128, q (ix2 r e) * km (ix2 j e)
      = ∑ d : Fin 64, proj (ix3 b ⟨t.val % 16 * 128 + i.val, by omega⟩ ⟨h * 64 + d, by omega⟩)
          * proj (ix3 b ⟨start (t.val % 16) + j.val, by have := start_le (t.val % 16); omega⟩ ⟨3072 + (h / 4 * 64 + d), by omega⟩))
    (hv : ∀ j : Fin 384, vd (ix2 j d)
      = proj (ix3 b ⟨start (t.val % 16) + j.val, by have := start_le (t.val % 16); omega⟩ ⟨3200 + (h / 4 * 64 + d.val % 64), by omega⟩)) :
    pairOut km vd (maskOf t) q a a' (ix2 r d)
      = rowAt proj sink b ⟨t.val % 16 * 128 + i.val, by omega⟩ h ⟨d.val % 64, by omega⟩ := by
  have hc := coord t
  have hl := start_le (t.val % 16)
  have e := pairOut_row (grid0.coords t) km vd q a a' r d
    (fun l => ∑ d : Fin 64, proj (ix3 b ⟨t.val % 16 * 128 + i.val, by omega⟩ ⟨h * 64 + d, by omega⟩)
      * proj (ix3 b l ⟨3072 + (h / 4 * 64 + d), by omega⟩))
    (fun l => proj (ix3 b l ⟨3200 + (h / 4 * 64 + d.val % 64), by omega⟩))
    (fun l => IsReal.sum fun d => (hfin _).mul (hfin _)) (fun l => hfin _) (sink (ix2 0 h)) (hsink _) he
    (by rw [hc]; exact hl) (fun j => by simp only [hc]; exact hs j) (fun j => by simp only [hc]; exact hv j)
  rw [e]
  unfold rowAt
  simp only [hc, hr]

/-- An even head of the first key head. -/
theorem even0 (proj : FVec Ideal S32x2048x3328 .bf16) (sink : FVec Ideal S1x8 .f32) (hfin : ∀ x, IsReal (proj x))
    (hsink : ∀ x, IsReal (sink x)) (t : Fin cfg0.N) (b : Fin 32) (i d : Fin 128) (h : Fin 8) (p : ℕ) (hp : p < 2) (hh : h.val = 2 * p)
    (r : Fin 256) (hr : r.val % 128 = i.val) (k v : Vec Ideal S1x384x128 .bf16) (q : FVec Ideal S256x128 .bf16) (a a' : EReal)
    (he : (if (r : ℕ) < 128 then a else a') = sink (ix2 0 h))
    (hq : ∀ e : Fin 128, q (ix2 r e) = proj (ix3 b ⟨t.val % 16 * 128 + i.val, by omega⟩ ⟨p * 128 + e, by omega⟩))
    (hk : ∀ (j : Fin 384) (e : Fin 128), k (ix3 0 j e)
      = proj (ix3 b ⟨start (t.val % 16) + j.val, by have := start_le (t.val % 16); omega⟩ ⟨3072 + e, by omega⟩))
    (hv : ∀ (j : Fin 384) (e : Fin 128), v (ix3 0 j e)
      = proj (ix3 b ⟨start (t.val % 16) + j.val, by have := start_le (t.val % 16); omega⟩ ⟨3200 + e, by omega⟩)) :
    pairOut (k0_pay7 k) (k0_pay11 v) (maskOf t) q a a' (ix2 r d)
      = rowAt proj sink b ⟨t.val % 16 * 128 + i.val, by omega⟩ h ⟨d.val % 64, by omega⟩ := by
  refine row_core proj sink hfin hsink t b i d h r hr _ _ q a a' he (fun j => ?_) (fun j => ?_)
  · refine (score7 (fun e => q (ix2 r e)) k j).trans (Finset.sum_congr rfl fun e _ => ?_)
    simp only [hq, hk]
    have e1 : p * 128 + (e.val) = h.val * 64 + e.val := by omega
    have e2 : 3072 + (e.val) = 3072 + (h.val / 4 * 64 + e.val) := by omega
    exact congrArg₂ (· * ·) (congrArg (fun x => proj (ix3 b _ x)) (Fin.ext e1))
      (congrArg (fun x => proj (ix3 b _ x)) (Fin.ext e2))
  · rw [val11, hv]
    have e3 : 3200 + (d.val % 64) = 3200 + (h.val / 4 * 64 + d.val % 64) := by omega
    exact congrArg (fun x => proj (ix3 b _ x)) (Fin.ext e3)

/-- An even head of the second key head. -/
theorem even1 (proj : FVec Ideal S32x2048x3328 .bf16) (sink : FVec Ideal S1x8 .f32) (hfin : ∀ x, IsReal (proj x))
    (hsink : ∀ x, IsReal (sink x)) (t : Fin cfg0.N) (b : Fin 32) (i d : Fin 128) (h : Fin 8) (p : ℕ) (hp : 2 ≤ p) (hp' : p < 4) (hh : h.val = 2 * p)
    (r : Fin 256) (hr : r.val % 128 = i.val) (k v : Vec Ideal S1x384x128 .bf16) (q : FVec Ideal S256x128 .bf16) (a a' : EReal)
    (he : (if (r : ℕ) < 128 then a else a') = sink (ix2 0 h))
    (hq : ∀ e : Fin 128, q (ix2 r e) = proj (ix3 b ⟨t.val % 16 * 128 + i.val, by omega⟩ ⟨p * 128 + e, by omega⟩))
    (hk : ∀ (j : Fin 384) (e : Fin 128), k (ix3 0 j e)
      = proj (ix3 b ⟨start (t.val % 16) + j.val, by have := start_le (t.val % 16); omega⟩ ⟨3072 + e, by omega⟩))
    (hv : ∀ (j : Fin 384) (e : Fin 128), v (ix3 0 j e)
      = proj (ix3 b ⟨start (t.val % 16) + j.val, by have := start_le (t.val % 16); omega⟩ ⟨3200 + e, by omega⟩)) :
    pairOut (k0_pay8 k) (k0_pay12 v) (maskOf t) q a a' (ix2 r d)
      = rowAt proj sink b ⟨t.val % 16 * 128 + i.val, by omega⟩ h ⟨d.val % 64, by omega⟩ := by
  refine row_core proj sink hfin hsink t b i d h r hr _ _ q a a' he (fun j => ?_) (fun j => ?_)
  · refine (score8 (fun e => q (ix2 r e)) k j).trans (Finset.sum_congr rfl fun e _ => ?_)
    simp only [hq, hk]
    have e1 : p * 128 + (e.val) = h.val * 64 + e.val := by omega
    have e2 : 3072 + (64 + e.val) = 3072 + (h.val / 4 * 64 + e.val) := by omega
    exact congrArg₂ (· * ·) (congrArg (fun x => proj (ix3 b _ x)) (Fin.ext e1))
      (congrArg (fun x => proj (ix3 b _ x)) (Fin.ext e2))
  · rw [val12, hv]
    have e3 : 3200 + (64 + d.val % 64) = 3200 + (h.val / 4 * 64 + d.val % 64) := by omega
    exact congrArg (fun x => proj (ix3 b _ x)) (Fin.ext e3)

/-- An odd head of the first key head. -/
theorem odd0 (proj : FVec Ideal S32x2048x3328 .bf16) (sink : FVec Ideal S1x8 .f32) (hfin : ∀ x, IsReal (proj x))
    (hsink : ∀ x, IsReal (sink x)) (t : Fin cfg0.N) (b : Fin 32) (i d : Fin 128) (h : Fin 8) (p : ℕ) (hp : p < 2) (hh : h.val = 2 * p + 1)
    (r : Fin 256) (hr : r.val % 128 = i.val) (k v : Vec Ideal S1x384x128 .bf16) (q : FVec Ideal S256x128 .bf16) (a a' : EReal)
    (he : (if (r : ℕ) < 128 then a else a') = sink (ix2 0 h))
    (hq : ∀ e : Fin 128, q (ix2 r e) = proj (ix3 b ⟨t.val % 16 * 128 + i.val, by omega⟩ ⟨p * 128 + e, by omega⟩))
    (hk : ∀ (j : Fin 384) (e : Fin 128), k (ix3 0 j e)
      = proj (ix3 b ⟨start (t.val % 16) + j.val, by have := start_le (t.val % 16); omega⟩ ⟨3072 + e, by omega⟩))
    (hv : ∀ (j : Fin 384) (e : Fin 128), v (ix3 0 j e)
      = proj (ix3 b ⟨start (t.val % 16) + j.val, by have := start_le (t.val % 16); omega⟩ ⟨3200 + e, by omega⟩)) :
    pairOut (k0_pay9 k) (k0_pay11 v) (maskOf t) q a a' (ix2 r d)
      = rowAt proj sink b ⟨t.val % 16 * 128 + i.val, by omega⟩ h ⟨d.val % 64, by omega⟩ := by
  refine row_core proj sink hfin hsink t b i d h r hr _ _ q a a' he (fun j => ?_) (fun j => ?_)
  · refine (score9 (fun e => q (ix2 r e)) k j).trans (Finset.sum_congr rfl fun e _ => ?_)
    simp only [hq, hk]
    have e1 : p * 128 + (64 + e.val) = h.val * 64 + e.val := by omega
    have e2 : 3072 + (e.val) = 3072 + (h.val / 4 * 64 + e.val) := by omega
    exact congrArg₂ (· * ·) (congrArg (fun x => proj (ix3 b _ x)) (Fin.ext e1))
      (congrArg (fun x => proj (ix3 b _ x)) (Fin.ext e2))
  · rw [val11, hv]
    have e3 : 3200 + (d.val % 64) = 3200 + (h.val / 4 * 64 + d.val % 64) := by omega
    exact congrArg (fun x => proj (ix3 b _ x)) (Fin.ext e3)

/-- An odd head of the second key head. -/
theorem odd1 (proj : FVec Ideal S32x2048x3328 .bf16) (sink : FVec Ideal S1x8 .f32) (hfin : ∀ x, IsReal (proj x))
    (hsink : ∀ x, IsReal (sink x)) (t : Fin cfg0.N) (b : Fin 32) (i d : Fin 128) (h : Fin 8) (p : ℕ) (hp : 2 ≤ p) (hp' : p < 4) (hh : h.val = 2 * p + 1)
    (r : Fin 256) (hr : r.val % 128 = i.val) (k v : Vec Ideal S1x384x128 .bf16) (q : FVec Ideal S256x128 .bf16) (a a' : EReal)
    (he : (if (r : ℕ) < 128 then a else a') = sink (ix2 0 h))
    (hq : ∀ e : Fin 128, q (ix2 r e) = proj (ix3 b ⟨t.val % 16 * 128 + i.val, by omega⟩ ⟨p * 128 + e, by omega⟩))
    (hk : ∀ (j : Fin 384) (e : Fin 128), k (ix3 0 j e)
      = proj (ix3 b ⟨start (t.val % 16) + j.val, by have := start_le (t.val % 16); omega⟩ ⟨3072 + e, by omega⟩))
    (hv : ∀ (j : Fin 384) (e : Fin 128), v (ix3 0 j e)
      = proj (ix3 b ⟨start (t.val % 16) + j.val, by have := start_le (t.val % 16); omega⟩ ⟨3200 + e, by omega⟩)) :
    pairOut (k0_pay10 k) (k0_pay12 v) (maskOf t) q a a' (ix2 r d)
      = rowAt proj sink b ⟨t.val % 16 * 128 + i.val, by omega⟩ h ⟨d.val % 64, by omega⟩ := by
  refine row_core proj sink hfin hsink t b i d h r hr _ _ q a a' he (fun j => ?_) (fun j => ?_)
  · refine (score10 (fun e => q (ix2 r e)) k j).trans (Finset.sum_congr rfl fun e _ => ?_)
    simp only [hq, hk]
    have e1 : p * 128 + (64 + e.val) = h.val * 64 + e.val := by omega
    have e2 : 3072 + (64 + e.val) = 3072 + (h.val / 4 * 64 + e.val) := by omega
    exact congrArg₂ (· * ·) (congrArg (fun x => proj (ix3 b _ x)) (Fin.ext e1))
      (congrArg (fun x => proj (ix3 b _ x)) (Fin.ext e2))
  · rw [val12, hv]
    have e3 : 3200 + (64 + d.val % 64) = 3200 + (h.val / 4 * 64 + d.val % 64) := by omega
    exact congrArg (fun x => proj (ix3 b _ x)) (Fin.ext e3)

/-- An index of a stored block is a row and a lane. -/
theorem rows (x : S1x128x128.Idx) : ∃ (i d : Fin 128), x = ix3 0 i d := by
  idx_vars x
  obtain rfl : x0 = 0 := Subsingleton.elim _ _
  exact ⟨x1, x2, rfl⟩

/-- A stored entry is the result at its place: the first half of the lanes one head, the second half the next. -/
theorem join (proj : FVec Ideal S32x2048x3328 .bf16) (sink : FVec Ideal S1x8 .f32) (t : Fin cfg0.N) (b : Fin 32) (i d : Fin 128) (p : ℕ)
    (hp : p < 4) (A B g : EReal)
    (hA : ∀ h : Fin 8, h.val = 2 * p → A = rowAt proj sink b ⟨t.val % 16 * 128 + i.val, by omega⟩ h ⟨d.val % 64, by omega⟩)
    (hB : ∀ h : Fin 8, h.val = 2 * p + 1 → B = rowAt proj sink b ⟨t.val % 16 * 128 + i.val, by omega⟩ h ⟨d.val % 64, by omega⟩)
    (hg : g = proj (ix3 b ⟨t.val % 16 * 128 + i.val, by omega⟩ ⟨512 + (p * 128 + d), by omega⟩))
    (j : S32x2048x512.Idx) (hj0 : (j 0 : ℕ) = b) (hj1 : (j 1 : ℕ) = t.val % 16 * 128 + i.val) (hj2 : (j 2 : ℕ) = p * 128 + d.val) :
    (if (d : ℕ) < 64 then A else B) * g = RES proj sink j := by
  have hj : j = ix3 b ⟨t.val % 16 * 128 + i.val, by omega⟩ ⟨p * 128 + d.val, by omega⟩ := by
    funext a; fin_cases a
    · exact Fin.ext hj0
    · exact Fin.ext hj1
    · exact Fin.ext hj2
  have key : ∀ (h : Fin 8) (e : Fin 64), p * 128 + d.val = h.val * 64 + e.val →
      rowAt proj sink b ⟨t.val % 16 * 128 + i.val, by omega⟩ h e * g = RES proj sink j := by
    intro h e hc
    have e1 : (h.val * 64 + e.val) / 64 = h.val := by omega
    have e2 : (h.val * 64 + e.val) % 64 = e.val := by omega
    rw [hj, hg]
    unfold RES cell rowAt
    simp only [ix3_0, ix3_1, ix3_2, hc, e1, e2, Fin.eta]
  split
  · rw [hA ⟨2 * p, by omega⟩ rfl]; exact key _ _ (by dsimp only; omega)
  · rw [hB ⟨2 * p + 1, by omega⟩ rfl]; exact key _ _ (by dsimp only; omega)

/-- What a grid point leaves in the output block is the result there. -/
theorem out_point (hfin : ∀ x, IsReal (m (((0 : Dev nD) : Thread nD τ).loc main_arg0) x))
    (hsink : ∀ x, IsReal (m (((0 : Dev nD) : Thread nD τ).loc main_arg1) x)) (c : Dev nD) (t : Fin cfg0.N) (y : S1x128x512.Idx)
    (j : S32x2048x512.Idx) (hj0 : (j 0 : ℕ) = t.val / 16) (hj1 : (j 1 : ℕ) = t.val % 16 * 128 + y 1) (hj2 : (j 2 : ℕ) = y 2) :
    outsAt0 m c t y = RES (m ((c : Thread nD τ).loc main_arg0)) (m ((c : Thread nD τ).loc main_arg1)) j := by
  obtain rfl : c = 0 := Subsingleton.elim _ _
  have ht : t.val < 512 := lt_of_lt_of_eq t.isLt N_0
  unfold outsAt0
  frame_out
  canon_tiles x h
  case piece0 =>
    obtain ⟨i, d, rfl⟩ := rows x
    rw [piece3]
    refine (highTile_at _ _ _ _ _ _ _ _ _ _ i d).trans ?_
    refine join _ _ t ⟨t.val / 16, by omega⟩ i d 3 (by omega) _ _ _ (fun h hh => ?_) (fun h hh => ?_) ?_ j hj0
      (hj1.trans (by rw [h1]; rfl)) (hj2.trans h2)
    · refine even1 _ _ hfin hsink t ⟨t.val / 16, by omega⟩ i d h 3 (by omega) (by omega) (hh.trans (by omega)) ⟨128 + i.val, by omega⟩ (by dsimp only; omega)
        _ _ _ _ _ ?_ (fun e => (q_high _ _ i e).trans ?_) (fun j e => k_span m t j e _ rfl (start_le _) _) (fun j e => v_span m t j e _ rfl (start_le _) _)
      · rw [if_neg (by dsimp only; omega)]
        obtain rfl : h = 6 := Fin.ext hh
        exact Eq.trans (b := iblk m 0 0 t (ix1 6)) (by pointwise) (sink_blk m 0 t 6)
      · exact Eq.trans (b := X0_1 m 0 t (ix3 0 i ⟨384 + e, by omega⟩)) (by pointwise) (q_blk m 0 t i _ _ ⟨t.val % 16, by omega⟩ rfl rfl)
    · refine odd1 _ _ hfin hsink t ⟨t.val / 16, by omega⟩ i d h 3 (by omega) (by omega) (hh.trans (by omega)) ⟨128 + i.val, by omega⟩ (by dsimp only; omega)
        _ _ _ _ _ ?_ (fun e => (q_high _ _ i e).trans ?_) (fun j e => k_span m t j e _ rfl (start_le _) _) (fun j e => v_span m t j e _ rfl (start_le _) _)
      · rw [if_neg (by dsimp only; omega)]
        obtain rfl : h = 7 := Fin.ext hh
        exact Eq.trans (b := iblk m 0 0 t (ix1 7)) (by pointwise) (sink_blk m 0 t 7)
      · exact Eq.trans (b := X0_1 m 0 t (ix3 0 i ⟨384 + e, by omega⟩)) (by pointwise) (q_blk m 0 t i _ _ ⟨t.val % 16, by omega⟩ rfl rfl)
    · exact Eq.trans (b := X0_4 m 0 t (ix3 0 i ⟨384 + d, by omega⟩)) (by pointwise) (gate_blk m 0 t i _ _ ⟨t.val % 16, by omega⟩ rfl rfl)
  case piece1 =>
    obtain ⟨i, d, rfl⟩ := rows x
    rw [piece2]
    refine (lowTile_at _ _ _ _ _ _ _ _ _ _ i d).trans ?_
    refine join _ _ t ⟨t.val / 16, by omega⟩ i d 2 (by omega) _ _ _ (fun h hh => ?_) (fun h hh => ?_) ?_ j hj0
      (hj1.trans (by rw [h1]; rfl)) (hj2.trans h2)
    · refine even1 _ _ hfin hsink t ⟨t.val / 16, by omega⟩ i d h 2 (by omega) (by omega) (hh.trans (by omega)) ⟨i.val, by omega⟩ (by dsimp only; omega)
        _ _ _ _ _ ?_ (fun e => (q_low _ _ i e).trans ?_) (fun j e => k_span m t j e _ rfl (start_le _) _) (fun j e => v_span m t j e _ rfl (start_le _) _)
      · rw [if_pos (by dsimp only; omega)]
        obtain rfl : h = 4 := Fin.ext hh
        exact Eq.trans (b := iblk m 0 0 t (ix1 4)) (by pointwise) (sink_blk m 0 t 4)
      · exact Eq.trans (b := X0_1 m 0 t (ix3 0 i ⟨256 + e, by omega⟩)) (by pointwise) (q_blk m 0 t i _ _ ⟨t.val % 16, by omega⟩ rfl rfl)
    · refine odd1 _ _ hfin hsink t ⟨t.val / 16, by omega⟩ i d h 2 (by omega) (by omega) (hh.trans (by omega)) ⟨i.val, by omega⟩ (by dsimp only; omega)
        _ _ _ _ _ ?_ (fun e => (q_low _ _ i e).trans ?_) (fun j e => k_span m t j e _ rfl (start_le _) _) (fun j e => v_span m t j e _ rfl (start_le _) _)
      · rw [if_pos (by dsimp only; omega)]
        obtain rfl : h = 5 := Fin.ext hh
        exact Eq.trans (b := iblk m 0 0 t (ix1 5)) (by pointwise) (sink_blk m 0 t 5)
      · exact Eq.trans (b := X0_1 m 0 t (ix3 0 i ⟨256 + e, by omega⟩)) (by pointwise) (q_blk m 0 t i _ _ ⟨t.val % 16, by omega⟩ rfl rfl)
    · exact Eq.trans (b := X0_4 m 0 t (ix3 0 i ⟨256 + d, by omega⟩)) (by pointwise) (gate_blk m 0 t i _ _ ⟨t.val % 16, by omega⟩ rfl rfl)
  case piece2 =>
    obtain ⟨i, d, rfl⟩ := rows x
    rw [piece1]
    refine (highTile_at _ _ _ _ _ _ _ _ _ _ i d).trans ?_
    refine join _ _ t ⟨t.val / 16, by omega⟩ i d 1 (by omega) _ _ _ (fun h hh => ?_) (fun h hh => ?_) ?_ j hj0
      (hj1.trans (by rw [h1]; rfl)) (hj2.trans h2)
    · refine even0 _ _ hfin hsink t ⟨t.val / 16, by omega⟩ i d h 1 (by omega) (hh.trans (by omega)) ⟨128 + i.val, by omega⟩ (by dsimp only; omega)
        _ _ _ _ _ ?_ (fun e => (q_high _ _ i e).trans ?_) (fun j e => k_span m t j e _ rfl (start_le _) _) (fun j e => v_span m t j e _ rfl (start_le _) _)
      · rw [if_neg (by dsimp only; omega)]
        obtain rfl : h = 2 := Fin.ext hh
        exact Eq.trans (b := iblk m 0 0 t (ix1 2)) (by pointwise) (sink_blk m 0 t 2)
      · exact Eq.trans (b := X0_1 m 0 t (ix3 0 i ⟨128 + e, by omega⟩)) (by pointwise) (q_blk m 0 t i _ _ ⟨t.val % 16, by omega⟩ rfl rfl)
    · refine odd0 _ _ hfin hsink t ⟨t.val / 16, by omega⟩ i d h 1 (by omega) (hh.trans (by omega)) ⟨128 + i.val, by omega⟩ (by dsimp only; omega)
        _ _ _ _ _ ?_ (fun e => (q_high _ _ i e).trans ?_) (fun j e => k_span m t j e _ rfl (start_le _) _) (fun j e => v_span m t j e _ rfl (start_le _) _)
      · rw [if_neg (by dsimp only; omega)]
        obtain rfl : h = 3 := Fin.ext hh
        exact Eq.trans (b := iblk m 0 0 t (ix1 3)) (by pointwise) (sink_blk m 0 t 3)
      · exact Eq.trans (b := X0_1 m 0 t (ix3 0 i ⟨128 + e, by omega⟩)) (by pointwise) (q_blk m 0 t i _ _ ⟨t.val % 16, by omega⟩ rfl rfl)
    · exact Eq.trans (b := X0_4 m 0 t (ix3 0 i ⟨128 + d, by omega⟩)) (by pointwise) (gate_blk m 0 t i _ _ ⟨t.val % 16, by omega⟩ rfl rfl)
  case piece3 =>
    obtain ⟨i, d, rfl⟩ := rows x
    rw [piece0]
    refine (lowTile_at _ _ _ _ _ _ _ _ _ _ i d).trans ?_
    refine join _ _ t ⟨t.val / 16, by omega⟩ i d 0 (by omega) _ _ _ (fun h hh => ?_) (fun h hh => ?_) ?_ j hj0
      (hj1.trans (by rw [h1]; rfl)) (hj2.trans (h2.trans (by show d.val = 0 * 128 + d.val; omega)))
    · refine even0 _ _ hfin hsink t ⟨t.val / 16, by omega⟩ i d h 0 (by omega) (hh.trans (by omega)) ⟨i.val, by omega⟩ (by dsimp only; omega)
        _ _ _ _ _ ?_ (fun e => (q_low _ _ i e).trans ?_) (fun j e => k_span m t j e _ rfl (start_le _) _) (fun j e => v_span m t j e _ rfl (start_le _) _)
      · rw [if_pos (by dsimp only; omega)]
        obtain rfl : h = 0 := Fin.ext hh
        exact Eq.trans (b := iblk m 0 0 t (ix1 0)) (by pointwise) (sink_blk m 0 t 0)
      · exact Eq.trans (b := X0_1 m 0 t (ix3 0 i ⟨0 + e, by omega⟩)) (by pointwise) (q_blk m 0 t i _ _ ⟨t.val % 16, by omega⟩ rfl rfl)
    · refine odd0 _ _ hfin hsink t ⟨t.val / 16, by omega⟩ i d h 0 (by omega) (hh.trans (by omega)) ⟨i.val, by omega⟩ (by dsimp only; omega)
        _ _ _ _ _ ?_ (fun e => (q_low _ _ i e).trans ?_) (fun j e => k_span m t j e _ rfl (start_le _) _) (fun j e => v_span m t j e _ rfl (start_le _) _)
      · rw [if_pos (by dsimp only; omega)]
        obtain rfl : h = 1 := Fin.ext hh
        exact Eq.trans (b := iblk m 0 0 t (ix1 1)) (by pointwise) (sink_blk m 0 t 1)
      · exact Eq.trans (b := X0_1 m 0 t (ix3 0 i ⟨0 + e, by omega⟩)) (by pointwise) (q_blk m 0 t i _ _ ⟨t.val % 16, by omega⟩ rfl rfl)
    · exact Eq.trans (b := X0_4 m 0 t (ix3 0 i ⟨0 + d, by omega⟩)) (by pointwise) (gate_blk m 0 t i _ _ ⟨t.val % 16, by omega⟩ rfl rfl)

/-- After the run the result array is `RES` of the arguments. -/
theorem final (hfin : ∀ x, IsReal (m (((0 : Dev nD) : Thread nD τ).loc main_arg0) x))
    (hsink : ∀ x, IsReal (m (((0 : Dev nD) : Thread nD τ).loc main_arg1) x)) (c : Dev nD) :
    (dats m 0 c).arrAt 5 cfg0.N = RES (m ((c : Thread nD τ).loc main_arg0)) (m ((c : Thread nD τ).loc main_arg1)) := by
  refine (dats m 0 c).arrAt_eq_of_covers 5 _ (by decide +kernel) fun t hf y => ?_
  have ht : t.val < 512 := lt_of_lt_of_eq t.isLt N_0
  blk_simp
  rw [after0_5]
  refine out_point m hfin hsink c t _ _ ?_ ?_ ?_
  all_goals (blk_simp [idx t] <;> try omega)

end Cert.AttnAIdeal.Whole

end
-- ==== Proof.RefA.lean ====
/-
  The windowed-attention reference read at an entry: its stages are the row's scores, mask, softmax with the sink, values
  and gate.
-/
module

public import proofs.«01_k».proof.Proof.WindowSpec
public import proofs.«01_k».proof.Proof.Gen.AttnARefIdeal.Read

@[expose] public section

set_option maxRecDepth 16384

noncomputable section

namespace Cert.AttnARefIdeal.Point

open Cert.AttnARefIdeal Cert.AttnARefIdeal.Read Idealize.ShloMosaic Idealize.ShloMosaic.TcCoe Cert.Soft Cert.SinkSpec
open scoped BigOperators

/-- The fused projection array. -/
abbrev Proj := (⟨S32x2048x3328, .bf16⟩ : BufTy).Contents (Elt Ideal)

/-- The array of sinks. -/
abbrev Sinks := (⟨S1x8, .f32⟩ : BufTy).Contents (Elt Ideal)

/-- The product of a query and a key. -/
theorem dot_at (x0 : Proj) (b : Fin 32) (c : Fin 2) (g : Fin 4) (r j : Fin 2048) :
    val_main_v11 (F := Ideal) x0 (ix5 b c g r j)
      = ∑ d : Fin 64, x0 (ix3 b r ⟨(c * 4 + g) * 64 + d, by omega⟩) * x0 (ix3 b j ⟨3072 + (c * 64 + d), by omega⟩) := by
  pointwise [val_main_v11, val_main_v10, val_main_v5, val_main_v2, val_main_v4, val_main_v1, val_main_v0]
  refine Finset.sum_congr rfl fun d _ => (mul_comm _ _).trans ?_
  congr 1
  exact congrArg (fun x => x0 (ix3 b r x)) (Fin.ext (by show c.val * 256 + g.val * 64 + d.val = (c.val * 4 + g.val) * 64 + d.val; omega))

/-- The masked score of a query and a key. -/
theorem score_at (x0 : Proj) (b : Fin 32) (c : Fin 2) (g : Fin 4) (r j : Fin 2048) :
    val_main_v24 (F := Ideal) x0 (ix5 b c g r j)
      = if near r.val j.val then (∑ d : Fin 64, x0 (ix3 b r ⟨(c * 4 + g) * 64 + d, by omega⟩)
          * x0 (ix3 b j ⟨3072 + (c * 64 + d), by omega⟩)) * ((Real.log 2 : ℝ) : EReal) else ⊥ := by
  rw [← dot_at, ← abs_le r.val j.val (by omega) (by omega), ← log_two, ← ofBits_neg_inf]
  unfold val_main_v24 val_main_v14
  generalize val_main_v11 (F := Ideal) x0 = s
  pointwise [val_main_call0_v1, val_main_v23, val_main_v22, val_main_v21, val_main_v20, val_main_v19, val_main_v18, val_main_v17, val_main_v16, val_main_v15, val_main_c, val_main_v13, val_main_v12, val_main_cst, val_main_call0_v2, val_main_call0_v0, val_main_cst_0]
  rfl

/-- The sink of a head. -/
theorem sink_at (x1 : Sinks) (b : Fin 32) (c : Fin 2) (g : Fin 4) (r : Fin 2048) :
    val_main_v27 (F := Ideal) x1 (ix5 b c g r 0) = x1 (ix2 0 ⟨c * 4 + g, by omega⟩) := by
  pointwise [val_main_v27, val_main_v9, val_main_v8]

/-- The same sink, read again. -/
theorem sink_at' (x1 : Sinks) (b : Fin 32) (c : Fin 2) (g : Fin 4) (r : Fin 2048) :
    val_main_v34 (F := Ideal) x1 (ix5 b c g r 0) = x1 (ix2 0 ⟨c * 4 + g, by omega⟩) := by
  pointwise [val_main_v34, val_main_v9, val_main_v8]

/-- The largest of a row's scores. -/
theorem fold_at (x0 : Proj) (b : Fin 32) (c : Fin 2) (g : Fin 4) (r : Fin 2048) :
    val_main_v25 (F := Ideal) x0 (ix4 b c g r)
      = Finset.univ.fold max ⊥ fun l => val_main_v24 (F := Ideal) x0 (ix5 b c g r l) := by
  unfold val_main_v25
  generalize val_main_v24 (F := Ideal) x0 = s
  pointwise [val_main_cst_1]
  rw [ofBits_neg_inf]

/-- The largest of a row's scores and its sink. -/
theorem max_at (x0 : Proj) (x1 : Sinks) (b : Fin 32) (c : Fin 2) (g : Fin 4) (r : Fin 2048) :
    val_main_v28 (F := Ideal) x0 x1 (ix5 b c g r 0)
      = max (Finset.univ.fold max ⊥ fun l => val_main_v24 (F := Ideal) x0 (ix5 b c g r l)) (x1 (ix2 0 ⟨c * 4 + g, by omega⟩)) := by
  have hi : idx_main_v26 (ix5 b c g r 0) = ix4 b c g r := by
    funext a; fin_cases a <;> rfl
  rw [val_main_v28_apply, val_main_v26_apply, hi, fold_at, sink_at]
  generalize (Finset.univ.fold max ⊥ fun l => val_main_v24 (F := Ideal) x0 (ix5 b c g r l)) = t
  generalize (x1 (ix2 0 ⟨c * 4 + g, _⟩)) = k
  rfl

/-- The exponential of a score less the row's maximum. -/
theorem exp_at (x0 : Proj) (x1 : Sinks) (b : Fin 32) (c : Fin 2) (g : Fin 4) (r j : Fin 2048) :
    val_main_v31 (F := Ideal) x0 x1 (ix5 b c g r j)
      = Ideal.exp (val_main_v24 (F := Ideal) x0 (ix5 b c g r j) - val_main_v28 (F := Ideal) x0 x1 (ix5 b c g r 0)) := by
  unfold val_main_v31 val_main_v30 val_main_v29
  generalize val_main_v24 (F := Ideal) x0 = s
  generalize val_main_v28 (F := Ideal) x0 x1 = t
  pointwise

/-- The softmax weight. -/
theorem div_at (x0 : Proj) (x1 : Sinks) (b : Fin 32) (c : Fin 2) (g : Fin 4) (r j : Fin 2048) :
    val_main_v39 (F := Ideal) x0 x1 (ix5 b c g r j)
      = Ideal.div (val_main_v31 (F := Ideal) x0 x1 (ix5 b c g r j))
          ((∑ l, val_main_v31 (F := Ideal) x0 x1 (ix5 b c g r l))
            + Ideal.exp (x1 (ix2 0 ⟨c * 4 + g, by omega⟩) - val_main_v28 (F := Ideal) x0 x1 (ix5 b c g r 0))) := by
  rw [← sink_at' x1 b c g r]
  unfold val_main_v39 val_main_v38 val_main_v37 val_main_v36 val_main_v35 val_main_v33 val_main_v32
  generalize val_main_v31 (F := Ideal) x0 x1 = s
  generalize val_main_v28 (F := Ideal) x0 x1 = t
  generalize val_main_v34 (F := Ideal) x1 = k
  pointwise [val_main_cst_2]

/-- The result before the gate and after it. -/
theorem out_at (x0 : Proj) (x1 : Sinks) (b : Fin 32) (c : Fin 2) (g : Fin 4) (r : Fin 2048) (e : Fin 64) :
    val_main_v44 (F := Ideal) x0 x1 (ix3 b r ⟨(c * 4 + g) * 64 + e, by omega⟩)
      = (∑ j, val_main_v39 (F := Ideal) x0 x1 (ix5 b c g r j) * x0 (ix3 b j ⟨3200 + (c * 64 + e), by omega⟩))
          * x0 (ix3 b r ⟨512 + ((c * 4 + g) * 64 + e), by omega⟩) := by
  unfold val_main_v44 val_main_v43 val_main_v42 val_main_v41 val_main_v40
  generalize val_main_v39 (F := Ideal) x0 x1 = s
  pointwise [val_main_v7, val_main_v6, val_main_v3, val_main_v0]
  congr 1
  exact Finset.sum_congr rfl fun _ _ => mul_comm _ _

/-- The reference's result at a row, head and lane. -/
theorem ref_at (x0 : Proj) (x1 : Sinks) (b : Fin 32) (c : Fin 2) (g : Fin 4) (r : Fin 2048) (e : Fin 64) :
    val_main_v44 (F := Ideal) x0 x1 (ix3 b r ⟨(c * 4 + g) * 64 + e, by omega⟩)
      = row (fun l => near r.val l.val)
          (fun l => ∑ d : Fin 64, x0 (ix3 b r ⟨(c * 4 + g) * 64 + d, by omega⟩) * x0 (ix3 b l ⟨3072 + (c * 64 + d), by omega⟩))
          (fun l => x0 (ix3 b l ⟨3200 + (c * 64 + e), by omega⟩)) (x1 (ix2 0 ⟨c * 4 + g, by omega⟩))
          * x0 (ix3 b r ⟨512 + ((c * 4 + g) * 64 + e), by omega⟩) := by
  rw [out_at]
  congr 1
  unfold row baseE
  refine Finset.sum_congr rfl fun j _ => ?_
  rw [div_at]
  simp only [exp_at, max_at, score_at]

end Cert.AttnARefIdeal.Point

end
-- ==== Proof.ClaimA.lean ====
/-
  The claims of the windowed-attention call: its runs end with the arguments unchanged and every semaphore at zero, its two
  named constants have the values the exact form gives them, and its result is the reference's.
-/
module

public import proofs.«01_k».proof.Defs
public import proofs.«01_k».proof.Proof.ValA
public import proofs.«01_k».proof.Proof.RefA
public import proofs.«01_k».proof.Proof.Gen.AttnA.Frame
public import proofs.«01_k».proof.Proof.Gen.AttnARefIdeal.Run
public import proofs.«01_k».proof.Proof.Gen.Pre_finite_a

@[expose] public section

set_option maxRecDepth 16384

noncomputable section

open Idealize.ShloMosaic Idealize.ShloMosaic.TcCoe Idealize.SL.Sem

namespace Cert.ClaimA

open Cert.Soft Cert.SinkSpec

/-- A number that is less than plus infinity in absolute value is real. -/
theorem real_of_cmp (x : EReal) (h : Ideal.cmp .olt (max x (-x)) (Ideal.ofBits .f32 0x7F800000#32) = 1#1) : IsReal x := by
  rw [ofBits_inf] at h
  apply isReal_of_abs_lt
  by_contra hn
  unfold Ideal.cmp at h
  simp [hn] at h

/-- The projected array is real where the precondition holds. -/
theorem proj_of_pre (p : FVec Ideal Cert.Pre_finite_a.S32x2048x3328 .bf16) (s : FVec Ideal Cert.Pre_finite_a.S1x8 .f32)
    (h : (Cert.Pre_finite_a.fn (F := Ideal) p s).1 = fun _ => 1#1) (x : Cert.Pre_finite_a.S32x2048x3328.Idx) : IsReal (p x) := by
  have hx := congrFun h x
  unfold Cert.Pre_finite_a.fn at hx
  exact real_of_cmp _ hx

/-- The sinks are real where the precondition holds. -/
theorem sink_of_pre (p : FVec Ideal Cert.Pre_finite_a.S32x2048x3328 .bf16) (s : FVec Ideal Cert.Pre_finite_a.S1x8 .f32)
    (h : (Cert.Pre_finite_a.fn (F := Ideal) p s).2 = fun _ => 1#1) (x : Cert.Pre_finite_a.S1x8.Idx) : IsReal (s x) := by
  have hx := congrFun h x
  unfold Cert.Pre_finite_a.fn at hx
  exact real_of_cmp _ hx

/-- The reference's result at a head of its own numbering is the kernel's. -/
theorem cell_eq (p : FVec Ideal Cert.AttnAIdeal.S32x2048x3328 .bf16) (s : FVec Ideal Cert.AttnAIdeal.S1x8 .f32)
    (b : Fin 32) (r : Fin 2048) (c : Fin 2) (g : Fin 4) (e : Fin 64) (h : Fin 8) (hh : h.val = c.val * 4 + g.val) :
    Cert.AttnARefIdeal.Read.val_main_v44 (F := Ideal) p s (ix3 b r ⟨(c * 4 + g) * 64 + e, by omega⟩)
      = Cert.AttnAIdeal.Whole.cell p s b r h e := by
  have hlt : c.val * 4 + g.val < 8 := by omega
  obtain rfl : h = ⟨c.val * 4 + g.val, hlt⟩ := Fin.ext hh
  have hd : (c.val * 4 + g.val) / 4 = c.val := by omega
  rw [Cert.AttnARefIdeal.Point.ref_at]
  unfold Cert.AttnAIdeal.Whole.cell
  simp only [hd]

/-- The kernel's result function is the reference's. -/
theorem res_eq (p : FVec Ideal Cert.AttnAIdeal.S32x2048x3328 .bf16) (s : FVec Ideal Cert.AttnAIdeal.S1x8 .f32) :
    Cert.AttnARefIdeal.Read.val_main_v44 (F := Ideal) p s = Cert.AttnAIdeal.Whole.RES p s := by
  funext j
  idx_vars j
  have e : j2 = ⟨((j2 : ℕ) / 256 * 4 + (j2 : ℕ) / 64 % 4) * 64 + (j2 : ℕ) % 64, by omega⟩ := Fin.ext (by dsimp only; omega)
  have hj := cell_eq p s j0 j1 ⟨(j2 : ℕ) / 256, by omega⟩ ⟨(j2 : ℕ) / 64 % 4, by omega⟩ ⟨(j2 : ℕ) % 64, by omega⟩
    ⟨(j2 : ℕ) / 64, by omega⟩ (by dsimp only; omega)
  refine Eq.trans (congrArg _ (congrArg _ e)) (hj.trans ?_)
  rfl

/-- At exact arithmetic the kernel's result is the reference's, for a finite projection and finite sinks. -/
theorem algebraic : Cert.algebraic_AttnAIdeal_AttnARefIdeal_pre_finite_a := by
  intro m g m' g' hpre hag
  have hfin := proj_of_pre _ _ (hpre 0).1
  have hsink := sink_of_pre _ _ (hpre 0).2
  refine ⟨fun c => (Cert.AttnAIdeal.Gen.dats m 0 c).arrAt 5 Cert.AttnAIdeal.cfg0.N, Cert.AttnAIdeal.Value.run_blocks m g, ?_⟩
  refine θ_run_mono (Cert.AttnARefIdeal.Value.run m' g') fun r h c => ⟨(h c).1.trans ?_, (h c).2⟩
  obtain ⟨h0, h1⟩ := hag c
  rw [Cert.AttnARefIdeal.Read.val_main_v44_eq, h0, h1]
  exact (res_eq _ _).trans (Cert.AttnAIdeal.Whole.final m hfin hsink c).symm

/-- The kernel's run ends with its arguments unchanged and its semaphores at zero. -/
theorem frame : Cert.quiescent_AttnA := fun m g _ => Cert.AttnA.Gen.frame m g

/-- The same of its exact form. -/
theorem frameIdeal : Cert.quiescent_AttnAIdeal := fun m g _ => Cert.AttnAIdeal.Gen.frame m g

/-- The same of its exact form, for finite arguments. -/
theorem frameIdealPre : Cert.quiescent_AttnAIdeal_pre_finite_a := fun m g _ => Cert.AttnAIdeal.Gen.frame m g

/-- The reference's run ends with its arguments unchanged; it has no semaphore. -/
theorem frameRef : Cert.quiescent_AttnARefIdeal := fun m g _ =>
  θ_run_mono (Cert.AttnARefIdeal.Value.run m g) fun r h => ⟨fun c => (h c).2, sem_eq_zero_of_no_sems rfl r.2⟩

/-- The same for finite arguments. -/
theorem frameRefPre : Cert.quiescent_AttnARefIdeal_pre_finite_a := fun m g _ =>
  θ_run_mono (Cert.AttnARefIdeal.Value.run m g) fun r h => ⟨fun c => (h c).2, sem_eq_zero_of_no_sems rfl r.2⟩

/-- The mask is minus infinity and the scale of the exponent is the inverse of the logarithm of two. -/
theorem preserves : Cert.preserves_AttnA_AttnAIdeal :=
  ⟨IdealRules.named_const.statement _ _ _ _ _ rfl, IdealRules.named_const.statement _ _ _ _ _ rfl⟩

end Cert.ClaimA

end
-- ==== Proof.FrameIn.lean ====
/-
  The input-projection call: its runs end with the arguments unchanged and every semaphore at zero.
-/
module

public import proofs.«01_k».proof.Defs
public import proofs.«01_k».proof.Proof.Gen.InProj.Frame
public import proofs.«01_k».proof.Proof.Gen.InProjIdeal.Frame
public import proofs.«01_k».proof.Proof.Gen.InProjRefIdeal.Run

@[expose] public section

set_option maxRecDepth 16384

noncomputable section

open Idealize.ShloMosaic Idealize.ShloMosaic.TcCoe Idealize.SL.Sem

namespace Cert.ClaimIn

/-- The kernel's run ends with its arguments unchanged and its semaphores at zero. -/
theorem frame : Cert.quiescent_InProj := fun m g _ => Cert.InProj.Gen.frame m g

/-- The same of its exact form. -/
theorem frameIdeal : Cert.quiescent_InProjIdeal := fun m g _ => Cert.InProjIdeal.Gen.frame m g

/-- The reference's run ends with its arguments unchanged; it has no semaphore. -/
theorem frameRef : Cert.quiescent_InProjRefIdeal := fun m g _ =>
  θ_run_mono (Cert.InProjRefIdeal.Value.run m g) fun r h => ⟨fun c => (h c).2, sem_eq_zero_of_no_sems rfl r.2⟩

end Cert.ClaimIn

end
-- ==== Proof.ProjTable.lean ====
/-
  The input-projection call: the matrix of the head sums, which the host holds as a table of 256 rows of 256 words. The
  table is stored in pieces of 128 words, half a row each, and these are of three kinds.
-/
module

public import proofs.«01_k».proof.InProjIdeal
public import Idealize.ShloMosaic.Lib.Pipeline.ValueKit

@[expose] public section

set_option maxRecDepth 16384

open Idealize.ShloMosaic

namespace Cert.InProjIdeal.Whole

open Cert.InProjIdeal

/-- The piece whose first 64 words are ones. -/
theorem low_words : ∀ j : Fin 128, lit0t0_0 j.val = if j.val < 64 then 0x3F80#16 else 0#16 := by
  decide +kernel

/-- The piece whose last 64 words are ones. -/
theorem high_words : ∀ j : Fin 128, lit0t0_128 j.val = if j.val < 64 then 0#16 else 0x3F80#16 := by
  decide +kernel

/-- The piece of zeros. -/
theorem zero_words : ∀ j : Fin 128, lit0t0_1 j.val = 0#16 := by
  decide +kernel

/-- A piece is read at the index within it. -/
theorem low_mod (i : Nat) : lit0t0_0 i = if i % 128 < 64 then 0x3F80#16 else 0#16 := by
  refine Eq.trans ?_ (low_words ⟨i % 128, Nat.mod_lt i (by decide)⟩)
  unfold lit0t0_0
  rw [Nat.mod_mod]

theorem high_mod (i : Nat) : lit0t0_128 i = if i % 128 < 64 then 0#16 else 0x3F80#16 := by
  refine Eq.trans ?_ (high_words ⟨i % 128, Nat.mod_lt i (by decide)⟩)
  unfold lit0t0_128
  rw [Nat.mod_mod]

theorem zero_mod (i : Nat) : lit0t0_1 i = 0#16 := by
  refine Eq.trans ?_ (zero_words ⟨i % 128, Nat.mod_lt i (by decide)⟩)
  unfold lit0t0_1
  rw [Nat.mod_mod]

/-! Rows 0 to 63 hold their ones in the first quarter, rows 64 to 127 in the second, and so on. -/

theorem rows_0 (i : Nat) : lit0t1_0 i = if i / 128 % 128 % 2 = 0 then lit0t0_0 i else lit0t0_1 i := by
  have h := Nat.mod_lt (i / 128) (show 0 < 128 by decide)
  unfold lit0t1_0
  generalize i / 128 % 128 = r at h
  interval_cases r <;> first | exact (if_pos rfl).symm | exact (if_neg (by decide)).symm

theorem rows_1 (i : Nat) : lit0t1_1 i = if i / 128 % 128 % 2 = 0 then lit0t0_128 i else lit0t0_1 i := by
  have h := Nat.mod_lt (i / 128) (show 0 < 128 by decide)
  unfold lit0t1_1
  generalize i / 128 % 128 = r at h
  interval_cases r <;> first | exact (if_pos rfl).symm | exact (if_neg (by decide)).symm

theorem rows_2 (i : Nat) : lit0t1_2 i = if i / 128 % 128 % 2 = 1 then lit0t0_0 i else lit0t0_1 i := by
  have h := Nat.mod_lt (i / 128) (show 0 < 128 by decide)
  unfold lit0t1_2
  generalize i / 128 % 128 = r at h
  interval_cases r <;> first | exact (if_pos rfl).symm | exact (if_neg (by decide)).symm

theorem rows_3 (i : Nat) : lit0t1_3 i = if i / 128 % 128 % 2 = 1 then lit0t0_128 i else lit0t0_1 i := by
  have h := Nat.mod_lt (i / 128) (show 0 < 128 by decide)
  unfold lit0t1_3
  generalize i / 128 % 128 = r at h
  interval_cases r <;> first | exact (if_pos rfl).symm | exact (if_neg (by decide)).symm

/-- The table at row `k` and column `l`. -/
theorem table (k l : Nat) (hk : k < 256) (hl : l < 256) :
    lit0t (k * 256 + l) = if k / 64 = l / 64 then 0x3F80#16 else 0#16 := by
  have h4 : k / 64 < 4 := by omega
  have e : (k * 256 + l) / 16384 = k / 64 := by omega
  have e2 : (k * 256 + l) / 128 % 128 % 2 = l / 128 := by omega
  have e3 : (k * 256 + l) % 128 = l % 128 := by omega
  unfold lit0t
  rw [e]
  generalize k / 64 = a at h4 ⊢
  interval_cases a
  · show lit0t1_0 (k * 256 + l) = _
    rw [rows_0, low_mod, zero_mod, e2, e3]
    split_ifs <;> first | rfl | omega
  · show lit0t1_1 (k * 256 + l) = _
    rw [rows_1, high_mod, zero_mod, e2, e3]
    split_ifs <;> first | rfl | omega
  · show lit0t1_2 (k * 256 + l) = _
    rw [rows_2, low_mod, zero_mod, e2, e3]
    split_ifs <;> first | rfl | omega
  · show lit0t1_3 (k * 256 + l) = _
    rw [rows_3, high_mod, zero_mod, e2, e3]
    split_ifs <;> first | rfl | omega

end Cert.InProjIdeal.Whole

end
-- ==== Proof.ProjHost.lean ====
/-
  The input-projection call: the arrays the host prepares for it, read at one entry.
-/
module

public import proofs.«01_k».proof.Proof.Gen.InProjIdeal.Value
public import proofs.«01_k».proof.Proof.ProjTable
public import Idealize.ShloMosaic.Lib.Pipeline.ValueKit
public import Idealize.ShloMosaic.Lib.Claim
public import Idealize.ShloMosaic.Lib.Routing.OpsOne
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators
open Idealize.ShloMosaic.Routing

namespace Cert.InProjIdeal.Whole

open Cert.InProjIdeal Cert.InProjIdeal.Gen

/-! ## A run of entries written into a vector -/

/-- Update `k` of a run written into a vector at the start word lands at the start plus `k`. -/
theorem run_lands {N U : Nat} (d : ScatterDims (shape1 N) (shape1 1) (shape1 U)) (hiw : d.insertedWindowDims = [])
    (hsd : d.scatterDimsToOperandDims = [0]) (hivd : d.indexVectorDim = 0) (idx : IVec (shape1 1) 32) (s : Nat)
    (hs : (idx (ix1 0)).toInt = (s : Int)) (k : Fin U) (e : Fin N) :
    d.resultIdx? (ix1 k) idx = some (ix1 e) ↔ s + k.val = e.val := by
  have hm : (0 : Fin 1) ∈ d.scatterDimsToOperandDims := by rw [hsd]; exact List.mem_singleton.2 rfl
  have hwin : d.window (ix1 k) 0 = k.val := by
    have hk : d.sKept = [0] := by
      show (shape1 N).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hst : d.start (ix1 k) idx 0 = (s : Int) := by
    unfold ScatterDims.start
    rw [dif_pos hm, ← hs]
    refine congrArg (fun q => (idx q).toInt) (funext fun b => ?_)
    match b with
    | ⟨0, _⟩ => exact Subsingleton.elim (α := Fin 1) _ _
  refine (resultIdx?_ix1 d (ix1 k) idx e).trans ?_
  rw [hwin, hst]
  omega

/-- A run written into a vector, read at entry `e`. -/
theorem run_at {N U : Nat} (d : ScatterDims (shape1 N) (shape1 1) (shape1 U)) (hiw : d.insertedWindowDims = [])
    (hsd : d.scatterDimsToOperandDims = [0]) (hivd : d.indexVectorDim = 0) (x : (shape1 N).Idx → EReal)
    (idx : IVec (shape1 1) 32) (u : (shape1 U).Idx → EReal) (s : Nat) (hs : (idx (ix1 0)).toInt = (s : Int)) (e : Fin N) :
    Host.scatter d (fun _ b => b) x idx u (ix1 e)
      = if h : s ≤ e.val ∧ e.val < s + U then u (ix1 ⟨e.val - s, by omega⟩) else x (ix1 e) := by
  have lands : ∀ k : (shape1 U).Idx, d.resultIdx? k idx = some (ix1 e) → s + (k 0).val = e.val := fun k hk =>
    (run_lands d hiw hsd hivd idx s hs (k 0) e).1 ((congrArg (fun q => d.resultIdx? q idx) (eq_ix1 k).symm).trans hk)
  by_cases h : s ≤ e.val ∧ e.val < s + U
  · rw [dif_pos h]
    refine scatter_set_hit d x idx u _ _ (fun k hk => ?_) (ix1 ⟨e.val - s, by omega⟩)
      ((run_lands d hiw hsd hivd idx s hs _ e).2 (by show s + (e.val - s) = e.val; omega))
    have q := lands k hk
    rw [eq_ix1 k]
    exact congrArg (fun t => u (ix1 t)) (Fin.ext (by show (k 0).val = e.val - s; omega))
  · rw [dif_neg h]
    refine scatter_set_miss d x idx u _ fun k hk => h ?_
    have q := lands k hk
    have hlt : (k 0).val < U := (k 0).isLt
    exact ⟨by omega, by omega⟩

/-! ## The host's arrays -/

variable (m : (ℓ : Loc nD τ sig) → Buf (Elt Ideal) ℓ)

/-- As launched: the input. -/
abbrev X (c : Dev nD) : FVec Ideal S32x2048x1024 .f32 := m ((c : Thread nD τ).loc main_arg0)
/-- As launched: the gain of the input's normalization. -/
abbrev G (c : Dev nD) : FVec Ideal S1x1024 .f32 := m ((c : Thread nD τ).loc main_arg3)
/-- As launched: the modulation. -/
abbrev M (c : Dev nD) : FVec Ideal S32x3072 .f32 := m ((c : Thread nD τ).loc main_arg2)
/-- As launched: the weight. -/
abbrev W (c : Dev nD) : FVec Ideal S1x1024x3328 .f32 := m ((c : Thread nD τ).loc main_arg4)
/-- As launched: the gain of the windowed attention's queries. -/
abbrev GQA (c : Dev nD) : FVec Ideal S1x64 .f32 := m ((c : Thread nD τ).loc main_arg5)
/-- As launched: the gain of the windowed attention's keys. -/
abbrev GKA (c : Dev nD) : FVec Ideal S1x64 .f32 := m ((c : Thread nD τ).loc main_arg6)
/-- As launched: the gain of the differential attention's queries. -/
abbrev GQB (c : Dev nD) : FVec Ideal S1x64 .f32 := m ((c : Thread nD τ).loc main_arg7)
/-- As launched: the gain of the differential attention's keys. -/
abbrev GKB (c : Dev nD) : FVec Ideal S1x64 .f32 := m ((c : Thread nD τ).loc main_arg8)
/-- As launched: the positions. -/
abbrev POS (c : Dev nD) : IVec S32x2048 32 := m ((c : Thread nD τ).loc main_arg1)

/-- The 256 by 256 matrix of the head sums: one where row and column belong to the same head. -/
theorem ones_V (c : Dev nD) (k l : Fin 256) :
    V m c main_cst (ix2 k l) = if k.val / 64 = l.val / 64 then (1 : EReal) else 0 := by
  have h : V m c main_cst = fun i => FloatOps.ofBits (F := Ideal) .bf16 (lit0 (S256x256.rowMajor i)) := by
    simp only [V, hostOps0]
    after_results
    rfl
  have at_entry : S256x256.rowMajor (ix2 k l) = ⟨k.val * 256 + l.val, by show _ < 256 * (256 * 1); omega⟩ := by
    refine Fin.ext ((Shape.rowMajorPi_succ_val _ _).trans ?_)
    show k.val * (256 * 1) + (Shape.rowMajorPi _ _ : Fin _).val = k.val * 256 + l.val
    rw [Shape.rowMajorPi_succ_val]
    show k.val * (256 * 1) + (l.val * 1 + 0) = k.val * 256 + l.val
    omega
  have one_word : FloatOps.ofBits (F := Ideal) .bf16 0x3F80#16 = 1 := by
    show Ideal.ofBits .bf16 0x3F80#16 = 1
    have e : Ideal.ofBits .bf16 0x3F80#16 = ((1 : ℝ) : EReal) := by
      simp [Ideal.ofBits, Ideal.ieee]
      rw [← EReal.coe_mul]
      norm_num
    rw [e, EReal.coe_one]
  have zero_word : FloatOps.ofBits (F := Ideal) .bf16 0#16 = 0 := by
    show Ideal.ofBits .bf16 0#16 = 0
    simp [Ideal.ofBits, Ideal.ieee]
  rw [h]
  show FloatOps.ofBits (F := Ideal) .bf16 (lit0 (S256x256.rowMajor (ix2 k l))) = _
  rw [at_entry]
  show FloatOps.ofBits (F := Ideal) .bf16 (lit0t (k.val * 256 + l.val)) = _
  rw [table k.val l.val k.isLt l.isLt]
  split
  · exact one_word
  · exact zero_word

/-- The rotation's frequencies: lane `l` holds frequency `l % 32`. -/
theorem invf_V (c : Dev nD) (l : Fin 128) :
    V m c main_v14 (ix2 0 l) = Ideal.div 1 (Ideal.pow (Ideal.ofBits FTy.f32 1176256512#32)
        (Ideal.div (Ideal.ofBits FTy.f32 1073741824#32 * FloatOps.sitofp (F := Ideal) FTy.f32 (BitVec.ofNat 32 (l.val % 32)))
          (Ideal.ofBits FTy.f32 1115684864#32))) := by
  simp only [V, hostOps0]
  after_results
  pointwise

/-- The positions and the modulation, reshaped by the host. -/
theorem pos_V (c : Dev nD) (b : Fin 32) (i : Fin 2048) :
    V m c main_v46 (ix3 b i 0) = m ((c : Thread nD τ).loc main_arg1) (ix2 b i) := by
  simp only [V, hostOps0]
  after_results
  pointwise
  try rfl

theorem mod_V (c : Dev nD) (b : Fin 32) (r : Fin 3) (k : Fin 1024) :
    V m c main_v45 (ix3 b r k) = m ((c : Thread nD τ).loc main_arg2) (ix2 b ⟨r.val * 1024 + k.val, by omega⟩) := by
  simp only [V, hostOps0]
  after_results
  pointwise
  try rfl

theorem w_V (c : Dev nD) (k : Fin 1024) (l : Fin 3328) :
    V m c main_v48 (ix2 k l) = m ((c : Thread nD τ).loc main_arg4) (ix3 0 k l) := by
  simp only [V, hostOps0]
  after_results
  pointwise
  try rfl

/-- The column gains over the queries' columns of the windowed attention. -/
theorem gain_qa (c : Dev nD) (l : Fin 3328) (hl : l.val < 512) :
    V m c main_v44 (ix2 0 l) = GQA m c (ix2 0 ⟨l.val % 64, by omega⟩) * Ideal.ofBits .f32 1043900987#32 := by
  simp only [V, hostOps0]
  after_results
  pointwise
  rw [run_at scatter_S3328_S1_S512_0_n_0_0 rfl rfl rfl _ _ _ 1792 rfl l, dif_neg (by omega),
    run_at scatter_S3328_S1_S512_0_n_0_0 rfl rfl rfl _ _ _ 1280 rfl l, dif_neg (by omega),
    run_at scatter_S3328_S1_S128_0_n_0_0 rfl rfl rfl _ _ _ 512 rfl l, dif_neg (by omega),
    run_at scatter_S3328_S1_S512_0_n_0_0 rfl rfl rfl _ _ _ 0 rfl l, dif_pos ⟨by omega, by omega⟩]
  rfl

/-- The column gains over the keys' columns of the windowed attention. -/
theorem gain_ka (c : Dev nD) (l : Fin 3328) (h0 : 512 ≤ l.val) (hl : l.val < 640) :
    V m c main_v44 (ix2 0 l) = GKA m c (ix2 0 ⟨l.val % 64, by omega⟩) := by
  simp only [V, hostOps0]
  after_results
  pointwise
  rw [run_at scatter_S3328_S1_S512_0_n_0_0 rfl rfl rfl _ _ _ 1792 rfl l, dif_neg (by omega),
    run_at scatter_S3328_S1_S512_0_n_0_0 rfl rfl rfl _ _ _ 1280 rfl l, dif_neg (by omega),
    run_at scatter_S3328_S1_S128_0_n_0_0 rfl rfl rfl _ _ _ 512 rfl l, dif_pos ⟨by omega, by omega⟩]
  exact congrArg (fun t => GKA m c (ix2 0 t)) (Fin.ext (by show (l.val - 512) % 64 = l.val % 64; omega))

/-- The column gains over the queries' columns of the differential attention. -/
theorem gain_qb (c : Dev nD) (l : Fin 3328) (h0 : 1280 ≤ l.val) (hl : l.val < 1792) :
    V m c main_v44 (ix2 0 l) = GQB m c (ix2 0 ⟨l.val % 64, by omega⟩) * Ideal.ofBits .f32 1043900987#32 := by
  simp only [V, hostOps0]
  after_results
  pointwise
  rw [run_at scatter_S3328_S1_S512_0_n_0_0 rfl rfl rfl _ _ _ 1792 rfl l, dif_neg (by omega),
    run_at scatter_S3328_S1_S512_0_n_0_0 rfl rfl rfl _ _ _ 1280 rfl l, dif_pos ⟨by omega, by omega⟩]
  exact congrArg (fun t => GQB m c (ix2 0 t) * Ideal.ofBits .f32 1043900987#32)
    (Fin.ext (by show (l.val - 1280) % 64 = l.val % 64; omega))

/-- The column gains over the keys' columns of the differential attention. -/
theorem gain_kb (c : Dev nD) (l : Fin 3328) (h0 : 1792 ≤ l.val) (hl : l.val < 2304) :
    V m c main_v44 (ix2 0 l) = GKB m c (ix2 0 ⟨l.val % 64, by omega⟩) := by
  simp only [V, hostOps0]
  after_results
  pointwise
  rw [run_at scatter_S3328_S1_S512_0_n_0_0 rfl rfl rfl _ _ _ 1792 rfl l, dif_pos ⟨by omega, by omega⟩]
  exact congrArg (fun t => GKB m c (ix2 0 t)) (Fin.ext (by show (l.val - 1792) % 64 = l.val % 64; omega))

end Cert.InProjIdeal.Whole
end
-- ==== Proof.ProjSpec.lean ====
/-
  The input projection in plain mathematics: the normalized and modulated row, one head's normalization and rotation,
  and sums over one head.
-/
module

public import Idealize.ShloMosaic.Lib.Pipeline.ValueKit
public import Idealize.ShloMosaic.Lib.Claim

@[expose] public section

noncomputable section

open Idealize.ShloMosaic
open scoped BigOperators

namespace Cert.ProjSpec

/-- One entry of the normalized row, with its gain, scale and shift. -/
def modulated (x g sc sh : Fin 1024 → EReal) (k : Fin 1024) : EReal :=
  x k * Ideal.rsqrt (Ideal.div (∑ j : Fin 1024, x j * x j) (Ideal.ofBits .f32 1149239296#32) + Ideal.ofBits .f32 897988541#32) * g k *
    (1 + sc k) + sh k

/-- One entry of a head divided by the head's root mean square, times its gain. -/
def normed (p g : Fin 64 → EReal) (d : Fin 64) : EReal :=
  p d * Ideal.rsqrt (Ideal.div (∑ j : Fin 64, p j * p j) (Ideal.ofBits .f32 1115684864#32) + Ideal.ofBits .f32 897988541#32) * g d

/-- One entry of a head turned by the angles of its position: entry `d` with entry `d + 32`. -/
def turned (q cs sn : Fin 64 → EReal) (d : Fin 64) : EReal :=
  if h : d.val < 32 then q d * cs d + -q ⟨d.val + 32, by omega⟩ * sn d
  else q d * cs d + q ⟨d.val - 32, by omega⟩ * sn d

/-- The gate's activation. -/
def silu (p : EReal) : EReal := p * Ideal.div 1 (1 + Ideal.exp (-p))

/-- The factor the queries carry. -/
def scale : EReal := Ideal.ofBits .f32 1043900987#32

theorem scale_real : ∃ r : ℝ, 0 ≤ r ∧ scale = (r : EReal) := by
  refine ⟨_, ?_, by unfold scale; simp [Ideal.ofBits, Ideal.ieee]; rw [← EReal.coe_mul]⟩
  positivity

/-- A factor common to a head's gains leaves the turned head as that factor. -/
theorem turned_scale (p g cs sn : Fin 64 → EReal) (d : Fin 64) :
    turned (normed p fun d => g d * scale) cs sn d = turned (normed p g) cs sn d * scale := by
  obtain ⟨r, hr, hs⟩ := scale_real
  have key : ∀ a b : EReal, (a + b) * scale = a * scale + b * scale := fun a b => by
    rw [hs]
    exact EReal.right_distrib_of_nonneg_of_ne_top (EReal.coe_nonneg.2 hr) (EReal.coe_ne_top r) a b
  unfold turned normed
  split
  · rw [key]
    simp only [neg_mul]
    refine congrArg₂ (· + ·) ?_ (congrArg Neg.neg ?_)
    · ac_rfl
    · ac_rfl
  · rw [key]
    beta_reduce
    refine congrArg₂ (· + ·) ?_ ?_
    · ac_rfl
    · ac_rfl

/-- A sum over the columns of one head out of many. -/
theorem head_sum {n : Nat} (f : Fin n → EReal) (b : Nat) (hb : b * 64 + 64 ≤ n) :
    ∑ k : Fin n, f k * (if k.val / 64 = b then (1 : EReal) else 0) = ∑ j : Fin 64, f ⟨b * 64 + j.val, by omega⟩ := by
  simp only [mul_ite, mul_one, mul_zero, ← Finset.sum_filter]
  refine Finset.sum_nbij' (fun k => ⟨k.val % 64, by omega⟩) (fun j => ⟨b * 64 + j.val, by omega⟩) ?_ ?_ ?_ ?_ ?_
  · intro k hk; simp
  · intro j hj; simp; omega
  · intro k hk
    have := (Finset.mem_filter.1 hk).2
    exact Fin.ext (by show b * 64 + k.val % 64 = k.val; omega)
  · intro j hj
    exact Fin.ext (by show (b * 64 + j.val) % 64 = j.val; omega)
  · intro k hk
    have := (Finset.mem_filter.1 hk).2
    exact congrArg f (Fin.ext (by show k.val = b * 64 + k.val % 64; omega))

/-- The mean's divisor: a product with one sixty-fourth is a quotient by sixty-four. -/
theorem mean64 (x : EReal) : x * Ideal.ofBits .f32 1015021568#32 = Ideal.div x (Ideal.ofBits .f32 1115684864#32) := by
  have h1 : Ideal.ofBits .f32 1015021568#32 = ((1 / 64 : ℝ) : EReal) := by
    simp [Ideal.ofBits, Ideal.ieee]; rw [← EReal.coe_mul]; norm_num
  have h2 : Ideal.ofBits .f32 1115684864#32 = ((64 : ℝ) : EReal) := by
    simp [Ideal.ofBits, Ideal.ieee]; rw [← EReal.coe_mul]; norm_num
  rw [h1, h2, Ideal.div_coe (by norm_num)]

/-- The angle of a position and a frequency. -/
def angle (p : BitVec 32) (fr : EReal) : EReal := FloatOps.sitofp (F := Ideal) .f32 p * fr

/-- The rotation's frequencies. -/
def freq (d : Fin 64) : EReal :=
  Ideal.div 1 (Ideal.pow (Ideal.ofBits FTy.f32 1176256512#32)
    (Ideal.div (Ideal.ofBits FTy.f32 1073741824#32 * FloatOps.sitofp (F := Ideal) FTy.f32 (BitVec.ofNat 32 (d.val % 32)))
      (Ideal.ofBits FTy.f32 1115684864#32)))

/-- One column of the projected row. -/
def projected (x g sc sh : Fin 1024 → EReal) (w : Fin 1024 → Fin 3328 → EReal) (s : Fin 3328) : EReal :=
  ∑ k : Fin 1024, modulated x g sc sh k * w k s

/-- The head that column `s` of the projection belongs to, normalized and turned, at that column. -/
def rotated (P : Fin 3328 → EReal) (g cs sn : Fin 64 → EReal) (s : Fin 3328) : EReal :=
  turned (normed (fun j => P ⟨s.val / 64 * 64 + j.val, by omega⟩) g) cs sn ⟨s.val % 64, by omega⟩

/-- One entry of the call's result: the sections lie in the order queries, gates, queries, keys, values, gates, keys,
    values. -/
def entry (P : Fin 3328 → EReal) (gqa gka gqb gkb cs sn : Fin 64 → EReal) (e : Fin 3328) : EReal :=
  if h0 : e.val < 512 then rotated P (fun d => gqa d * scale) cs sn e
  else if h1 : e.val < 1024 then silu (P ⟨e.val + 256, by omega⟩)
  else if h2 : e.val < 1536 then rotated P (fun d => gqb d * scale) cs sn ⟨e.val + 256, by omega⟩
  else if h3 : e.val < 2048 then rotated P gkb cs sn ⟨e.val + 256, by omega⟩
  else if h4 : e.val < 2560 then P ⟨e.val + 256, by omega⟩
  else if h5 : e.val < 3072 then silu (P ⟨e.val + 256, by omega⟩)
  else if h6 : e.val < 3200 then rotated P gka cs sn ⟨e.val - 2560, by omega⟩
  else P ⟨e.val - 2560, by omega⟩

/-- One entry of the call's result as a function of the call's arguments. -/
def result (x : Fin 32 → Fin 2048 → Fin 1024 → EReal) (pos : Fin 32 → Fin 2048 → BitVec 32) (mod : Fin 32 → Fin 3072 → EReal)
    (ng : Fin 1024 → EReal) (w : Fin 1024 → Fin 3328 → EReal) (gqa gka gqb gkb : Fin 64 → EReal)
    (b : Fin 32) (i : Fin 2048) (e : Fin 3328) : EReal :=
  entry (projected (x b i) ng (fun k => mod b ⟨1024 + k.val, by omega⟩) (fun k => mod b ⟨k.val, by omega⟩) w) gqa gka gqb gkb
    (fun d => Ideal.cos (angle (pos b i) (freq d))) (fun d => Ideal.sin (angle (pos b i) (freq d))) e

end Cert.ProjSpec

end
-- ==== Proof.ProjPay.lean ====
/-
  The input-projection call: the values of one block's stores, each read at one entry.
-/
module

public import proofs.«01_k».proof.Proof.Gen.InProjIdeal.Value
public import proofs.«01_k».proof.Proof.ProjSpec
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.InProjIdeal.Whole

open Cert.InProjIdeal Cert.InProjIdeal.Gen Cert.ProjSpec

/-- A 128-wide tile of two heads, turned: the tile times the cosines, plus its two rolls times the masked sines. -/
def turnTile (T C A B : FVec Ideal S512x128 .f32) : FVec Ideal S1x512x128 .bf16 :=
  shapeCast S1x512x128 (truncf .bf16 (addf (addf (mulf T C) (mulf (dynamicRotate 1 96#32 none T rotates_S512x128_d1) A))
    (mulf (dynamicRotate 1 32#32 none T rotates_S512x128_d1) B)) bitsLt_bf16_f32) shapeCasts_S512x128_S1x512x128

/-- A turned tile whose two heads are `q 0` and `q 1`. -/
theorem turnTile_at (T C A B : FVec Ideal S512x128 .f32) (r : Fin 512) (q : Fin 2 → Fin 64 → EReal) (cs sn : Fin 64 → EReal)
    (hT : ∀ l : Fin 128, T (ix2 r l) = q ⟨l.val / 64, by omega⟩ ⟨l.val % 64, by omega⟩)
    (hC : ∀ l : Fin 128, C (ix2 r l) = cs ⟨l.val % 64, by omega⟩)
    (hA : ∀ l : Fin 128, A (ix2 r l) = if l.val % 64 < 32 then 0 - sn ⟨l.val % 64, by omega⟩ else 0)
    (hB : ∀ l : Fin 128, B (ix2 r l) = if l.val % 64 < 32 then 0 else sn ⟨l.val % 64, by omega⟩) (l : Fin 128) :
    turnTile T C A B (ix3 0 r l) = turned (q ⟨l.val / 64, by omega⟩) cs sn ⟨l.val % 64, by omega⟩ := by
  have hr : turnTile T C A B (ix3 0 r l) = T (ix2 r l) * C (ix2 r l) + T (ix2 r ⟨(l.val + 128 - 96) % 128, by omega⟩) * A (ix2 r l)
      + T (ix2 r ⟨(l.val + 128 - 32) % 128, by omega⟩) * B (ix2 r l) := by
    unfold turnTile
    pointwise
  rw [hr, hT, hT, hT, hC, hA, hB]
  unfold turned
  by_cases h : l.val % 64 < 32
  · rw [if_pos h, if_pos h, dif_pos h, mul_zero, add_zero, zero_sub]
    have e : (⟨(l.val + 128 - 96) % 128 / 64, by omega⟩ : Fin 2) = ⟨l.val / 64, by omega⟩ := Fin.ext (by dsimp only; omega)
    have e' : (⟨(l.val + 128 - 96) % 128 % 64, by omega⟩ : Fin 64) = ⟨l.val % 64 + 32, by omega⟩ := Fin.ext (by dsimp only; omega)
    dsimp only
    rw [e, e', mul_neg, neg_mul]
  · rw [if_neg h, if_neg h, dif_neg h, mul_zero, add_zero]
    have e : (⟨(l.val + 128 - 32) % 128 / 64, by omega⟩ : Fin 2) = ⟨l.val / 64, by omega⟩ := Fin.ext (by dsimp only; omega)
    have e' : (⟨(l.val + 128 - 32) % 128 % 64, by omega⟩ : Fin 64) = ⟨l.val % 64 - 32, by omega⟩ := Fin.ext (by dsimp only; omega)
    dsimp only
    rw [e, e']

/-! ## The angles -/

theorem cos_at (f : FVec Ideal S1x128 .f32) (p : IVec S1x512x1 32) (r : Fin 512) (l : Fin 128) :
    k0_pay5 (F := Ideal) (k0_pay2 f) (k0_pay3 p) (ix2 r l) = Ideal.cos (angle (p (ix3 0 r 0)) (f (ix2 0 l))) := by
  pointwise [k0_pay5, k0_pay2, k0_pay3, k0_pay4]
  rfl

/-- The lanes of a head's first half, as the words compare. -/
theorem half_word (l : Fin 128) :
    IntOp.cmpi CmpIPredicate.slt (IntOp.andi (BitVec.ofNat 32 l.val) 63#32) 32#32 = if l.val % 64 < 32 then 1#1 else 0#1 := by
  revert l
  decide +kernel

theorem sinA_at (f : FVec Ideal S1x128 .f32) (p : IVec S1x512x1 32) (r : Fin 512) (l : Fin 128) :
    k0_pay8 (F := Ideal) (k0_pay2 f) (k0_pay3 p) (ix2 r l)
      = if l.val % 64 < 32 then 0 - Ideal.sin (angle (p (ix3 0 r 0)) (f (ix2 0 l))) else 0 := by
  pointwise [k0_pay8, k0_pay6, k0_pay7, k0_pay2, k0_pay3, k0_pay4]
  rw [half_word]
  by_cases h : l.val % 64 < 32
  · rw [if_pos h, if_pos h]; rfl
  · rw [if_neg h, if_neg h]; rfl

theorem sinB_at (f : FVec Ideal S1x128 .f32) (p : IVec S1x512x1 32) (r : Fin 512) (l : Fin 128) :
    k0_pay9 (F := Ideal) (k0_pay2 f) (k0_pay3 p) (ix2 r l)
      = if l.val % 64 < 32 then 0 else Ideal.sin (angle (p (ix3 0 r 0)) (f (ix2 0 l))) := by
  pointwise [k0_pay9, k0_pay6, k0_pay7, k0_pay2, k0_pay3, k0_pay4]
  rw [half_word]
  by_cases h : l.val % 64 < 32
  · rw [if_pos h, if_pos h]; rfl
  · rw [if_neg h, if_neg h]; rfl

/-! ## The normalized heads -/

theorem chunk_at (H : FVec Ideal S512x1024 .bf16) (W : FVec Ideal S1024x256 .bf16) (O : FVec Ideal S256x256 .bf16)
    (G : FVec Ideal S1x256 .f32) (hO : ∀ k l : Fin 256, O (ix2 k l) = if k.val / 64 = l.val / 64 then (1 : EReal) else 0)
    (r : Fin 512) (l : Fin 256) :
    k0_pay10 (F := Ideal) H W O G (ix2 r l)
      = normed (fun j => ∑ k : Fin 1024, H (ix2 r k) * W (ix2 k ⟨l.val / 64 * 64 + j.val, by omega⟩))
          (fun j => G (ix2 0 ⟨l.val / 64 * 64 + j.val, by omega⟩)) ⟨l.val % 64, by omega⟩ := by
  have e : (⟨l.val / 64 * 64 + l.val % 64, by omega⟩ : Fin 256) = l := Fin.ext (by dsimp only; omega)
  pointwise [k0_pay10]
  simp only [hO]
  rw [head_sum (fun x : Fin 256 => (∑ k : Fin 1024, H (ix2 r k) * W (ix2 k x)) * ∑ k : Fin 1024, H (ix2 r k) * W (ix2 k x))
    (l.val / 64) (by omega), mean64]
  unfold normed
  dsimp only
  rw [e]

theorem chunkK_at (H : FVec Ideal S512x1024 .bf16) (W : FVec Ideal S1024x128 .bf16) (O : FVec Ideal S128x128 .bf16)
    (G : FVec Ideal S1x128 .f32) (hO : ∀ k l : Fin 128, O (ix2 k l) = if k.val / 64 = l.val / 64 then (1 : EReal) else 0)
    (r : Fin 512) (l : Fin 128) :
    k0_pay20 (F := Ideal) H W O (ix2 r l) * G (ix2 0 l)
      = normed (fun j => ∑ k : Fin 1024, H (ix2 r k) * W (ix2 k ⟨l.val / 64 * 64 + j.val, by omega⟩))
          (fun j => G (ix2 0 ⟨l.val / 64 * 64 + j.val, by omega⟩)) ⟨l.val % 64, by omega⟩ := by
  have e : (⟨l.val / 64 * 64 + l.val % 64, by omega⟩ : Fin 128) = l := Fin.ext (by dsimp only; omega)
  pointwise [k0_pay20]
  simp only [hO]
  rw [head_sum (fun x : Fin 128 => (∑ k : Fin 1024, H (ix2 r k) * W (ix2 k x)) * ∑ k : Fin 1024, H (ix2 r k) * W (ix2 k x))
    (l.val / 64) (by omega), mean64]
  unfold normed
  dsimp only
  rw [e]

/-! ## The stores -/

/-- The first two heads of a chunk of four, turned. -/
def lowTile (H : FVec Ideal S512x1024 .bf16) (W : FVec Ideal S1024x256 .bf16) (O : FVec Ideal S256x256 .bf16)
    (G : FVec Ideal S1x256 .f32) (f : FVec Ideal S1x128 .f32) (p : IVec S1x512x1 32) : FVec Ideal S1x512x128 .bf16 :=
  turnTile (extractStridedSlice S512x128 ![0, 0] (k0_pay10 H W O G) slices_S512x256_o0_0_S512x128)
    (k0_pay5 (k0_pay2 f) (k0_pay3 p)) (k0_pay8 (k0_pay2 f) (k0_pay3 p)) (k0_pay9 (k0_pay2 f) (k0_pay3 p))

/-- The last two heads of a chunk of four, turned. -/
def highTile (H : FVec Ideal S512x1024 .bf16) (W : FVec Ideal S1024x256 .bf16) (O : FVec Ideal S256x256 .bf16)
    (G : FVec Ideal S1x256 .f32) (f : FVec Ideal S1x128 .f32) (p : IVec S1x512x1 32) : FVec Ideal S1x512x128 .bf16 :=
  turnTile (extractStridedSlice S512x128 ![0, 128] (k0_pay10 H W O G) slices_S512x256_o0_128_S512x128)
    (k0_pay5 (k0_pay2 f) (k0_pay3 p)) (k0_pay8 (k0_pay2 f) (k0_pay3 p)) (k0_pay9 (k0_pay2 f) (k0_pay3 p))

/-- A chunk of two heads, turned. -/
def pairTile (H : FVec Ideal S512x1024 .bf16) (W : FVec Ideal S1024x128 .bf16) (O : FVec Ideal S128x128 .bf16)
    (G : FVec Ideal S1x128 .f32) (f : FVec Ideal S1x128 .f32) (p : IVec S1x512x1 32) : FVec Ideal S1x512x128 .bf16 :=
  turnTile (mulf (k0_pay20 H W O) (broadcastTo S512x128 (shapeCast S1x128 G shapeCasts_S1x128_S1x128) broadcasts_S1x128_S512x128))
    (k0_pay5 (k0_pay2 f) (k0_pay3 p)) (k0_pay8 (k0_pay2 f) (k0_pay3 p)) (k0_pay9 (k0_pay2 f) (k0_pay3 p))

theorem lowTile_at (H : FVec Ideal S512x1024 .bf16) (W : FVec Ideal S1024x256 .bf16) (O : FVec Ideal S256x256 .bf16)
    (G : FVec Ideal S1x256 .f32) (f : FVec Ideal S1x128 .f32) (p : IVec S1x512x1 32)
    (hO : ∀ k l : Fin 256, O (ix2 k l) = if k.val / 64 = l.val / 64 then (1 : EReal) else 0)
    (fr : Fin 64 → EReal) (hf : ∀ l : Fin 128, f (ix2 0 l) = fr ⟨l.val % 64, by omega⟩) (r : Fin 512) (l : Fin 128) :
    lowTile H W O G f p (ix3 0 r l)
      = turned (normed (fun j => ∑ k : Fin 1024, H (ix2 r k) * W (ix2 k ⟨l.val / 64 * 64 + j.val, by omega⟩))
          (fun j => G (ix2 0 ⟨l.val / 64 * 64 + j.val, by omega⟩)))
          (fun d => Ideal.cos (angle (p (ix3 0 r 0)) (fr d))) (fun d => Ideal.sin (angle (p (ix3 0 r 0)) (fr d)))
          ⟨l.val % 64, by omega⟩ := by
  unfold lowTile
  refine (turnTile_at _ _ _ _ r
    (fun b => normed (fun j => ∑ k : Fin 1024, H (ix2 r k) * W (ix2 k ⟨b.val * 64 + j.val, by omega⟩))
      (fun j => G (ix2 0 ⟨b.val * 64 + j.val, by omega⟩)))
    (fun d => Ideal.cos (angle (p (ix3 0 r 0)) (fr d))) (fun d => Ideal.sin (angle (p (ix3 0 r 0)) (fr d)))
    (fun l => ?_) (fun l => ?_) (fun l => ?_) (fun l => ?_) l)
  · refine Eq.trans (b := k0_pay10 (F := Ideal) H W O G (ix2 r ⟨l.val, by omega⟩)) ?_ (chunk_at H W O G hO r ⟨l.val, by omega⟩)
    generalize k0_pay10 (F := Ideal) H W O G = X
    pointwise
  · rw [cos_at, hf]
  · rw [sinA_at, hf]
  · rw [sinB_at, hf]

theorem highTile_at (H : FVec Ideal S512x1024 .bf16) (W : FVec Ideal S1024x256 .bf16) (O : FVec Ideal S256x256 .bf16)
    (G : FVec Ideal S1x256 .f32) (f : FVec Ideal S1x128 .f32) (p : IVec S1x512x1 32)
    (hO : ∀ k l : Fin 256, O (ix2 k l) = if k.val / 64 = l.val / 64 then (1 : EReal) else 0)
    (fr : Fin 64 → EReal) (hf : ∀ l : Fin 128, f (ix2 0 l) = fr ⟨l.val % 64, by omega⟩) (r : Fin 512) (l : Fin 128) :
    highTile H W O G f p (ix3 0 r l)
      = turned (normed (fun j => ∑ k : Fin 1024, H (ix2 r k) * W (ix2 k ⟨128 + l.val / 64 * 64 + j.val, by omega⟩))
          (fun j => G (ix2 0 ⟨128 + l.val / 64 * 64 + j.val, by omega⟩)))
          (fun d => Ideal.cos (angle (p (ix3 0 r 0)) (fr d))) (fun d => Ideal.sin (angle (p (ix3 0 r 0)) (fr d)))
          ⟨l.val % 64, by omega⟩ := by
  unfold highTile
  refine (turnTile_at _ _ _ _ r
    (fun b => normed (fun j => ∑ k : Fin 1024, H (ix2 r k) * W (ix2 k ⟨128 + b.val * 64 + j.val, by omega⟩))
      (fun j => G (ix2 0 ⟨128 + b.val * 64 + j.val, by omega⟩)))
    (fun d => Ideal.cos (angle (p (ix3 0 r 0)) (fr d))) (fun d => Ideal.sin (angle (p (ix3 0 r 0)) (fr d)))
    (fun l => ?_) (fun l => ?_) (fun l => ?_) (fun l => ?_) l)
  · refine Eq.trans (b := k0_pay10 (F := Ideal) H W O G (ix2 r ⟨128 + l.val, by omega⟩)) ?_
      ((chunk_at H W O G hO r ⟨128 + l.val, by omega⟩).trans ?_)
    · generalize k0_pay10 (F := Ideal) H W O G = X
      pointwise
    · have e : (128 + l.val) / 64 * 64 = 128 + l.val / 64 * 64 := by omega
      have e' : (128 + l.val) % 64 = l.val % 64 := by omega
      dsimp only
      simp only [e, e']
  · rw [cos_at, hf]
  · rw [sinA_at, hf]
  · rw [sinB_at, hf]

theorem pairTile_at (H : FVec Ideal S512x1024 .bf16) (W : FVec Ideal S1024x128 .bf16) (O : FVec Ideal S128x128 .bf16)
    (G : FVec Ideal S1x128 .f32) (f : FVec Ideal S1x128 .f32) (p : IVec S1x512x1 32)
    (hO : ∀ k l : Fin 128, O (ix2 k l) = if k.val / 64 = l.val / 64 then (1 : EReal) else 0)
    (fr : Fin 64 → EReal) (hf : ∀ l : Fin 128, f (ix2 0 l) = fr ⟨l.val % 64, by omega⟩) (r : Fin 512) (l : Fin 128) :
    pairTile H W O G f p (ix3 0 r l)
      = turned (normed (fun j => ∑ k : Fin 1024, H (ix2 r k) * W (ix2 k ⟨l.val / 64 * 64 + j.val, by omega⟩))
          (fun j => G (ix2 0 ⟨l.val / 64 * 64 + j.val, by omega⟩)))
          (fun d => Ideal.cos (angle (p (ix3 0 r 0)) (fr d))) (fun d => Ideal.sin (angle (p (ix3 0 r 0)) (fr d)))
          ⟨l.val % 64, by omega⟩ := by
  unfold pairTile
  refine (turnTile_at _ _ _ _ r
    (fun b => normed (fun j => ∑ k : Fin 1024, H (ix2 r k) * W (ix2 k ⟨b.val * 64 + j.val, by omega⟩))
      (fun j => G (ix2 0 ⟨b.val * 64 + j.val, by omega⟩)))
    (fun d => Ideal.cos (angle (p (ix3 0 r 0)) (fr d))) (fun d => Ideal.sin (angle (p (ix3 0 r 0)) (fr d)))
    (fun l => ?_) (fun l => ?_) (fun l => ?_) (fun l => ?_) l)
  · refine Eq.trans (b := k0_pay20 (F := Ideal) H W O (ix2 r l) * G (ix2 0 l)) ?_ (chunkK_at H W O G hO r l)
    generalize k0_pay20 (F := Ideal) H W O = X
    pointwise
  · rw [cos_at, hf]
  · rw [sinA_at, hf]
  · rw [sinB_at, hf]

/-- The normalized and modulated rows of the block. -/
theorem hid_at (x : FVec Ideal S1x512x1024 .f32) (sh sc : FVec Ideal S1x1x1024 .f32) (g : FVec Ideal S1x1024 .f32)
    (r : Fin 512) (k : Fin 1024) :
    k0_pay1 (F := Ideal) x sh sc g (ix2 r k)
      = modulated (fun j => x (ix3 0 r j)) (fun j => g (ix2 0 j)) (fun j => sc (ix3 0 0 j)) (fun j => sh (ix3 0 0 j)) k := by
  pointwise [k0_pay1]
  rfl

theorem gate_at (H : FVec Ideal S512x1024 .bf16) (W : FVec Ideal S1024x256 .bf16) (r : Fin 512) (l : Fin 256) :
    k0_pay24 (F := Ideal) H W (ix3 0 r l) = silu (∑ k : Fin 1024, H (ix2 r k) * W (ix2 k l)) := by
  pointwise [k0_pay24]
  rfl

theorem value_at (H : FVec Ideal S512x1024 .bf16) (W : FVec Ideal S1024x128 .bf16) (r : Fin 512) (l : Fin 128) :
    k0_pay23 (F := Ideal) H W (ix3 0 r l) = ∑ k : Fin 1024, H (ix2 r k) * W (ix2 k l) := by
  pointwise [k0_pay23]

theorem value256_at (H : FVec Ideal S512x1024 .bf16) (W : FVec Ideal S1024x256 .bf16) (r : Fin 512) (l : Fin 256) :
    k0_pay46 (F := Ideal) H W (ix3 0 r l) = ∑ k : Fin 1024, H (ix2 r k) * W (ix2 k l) := by
  pointwise [k0_pay46]

/-! ## The turned tiles as columns of the projection -/

section Columns

variable (H : FVec Ideal S512x1024 .bf16) (O : FVec Ideal S256x256 .bf16) (f : FVec Ideal S1x128 .f32) (p : IVec S1x512x1 32)
  (hO : ∀ k l : Fin 256, O (ix2 k l) = if k.val / 64 = l.val / 64 then (1 : EReal) else 0)
  (hf : ∀ l : Fin 128, f (ix2 0 l) = freq ⟨l.val % 64, by omega⟩) (r : Fin 512) (h : Fin 1024 → EReal)
  (hH : ∀ k : Fin 1024, H (ix2 r k) = h k) (w : Fin 1024 → Fin 3328 → EReal) (g : Fin 64 → EReal)

include hO hf hH in
theorem low_rotated (W : FVec Ideal S1024x256 .bf16) (G : FVec Ideal S1x256 .f32) (src : Nat) (hs : src + 256 ≤ 3328) (hm : src % 64 = 0)
    (hW : ∀ (k : Fin 1024) (j : Fin 256), W (ix2 k j) = w k ⟨src + j.val, by omega⟩)
    (hG : ∀ j : Fin 256, G (ix2 0 j) = g ⟨j.val % 64, by omega⟩) (l : Fin 128) (s : Fin 3328) (es : s.val = src + l.val) :
    lowTile H W O G f p (ix3 0 r l) = rotated (fun s => ∑ k : Fin 1024, h k * w k s) g
      (fun d => Ideal.cos (angle (p (ix3 0 r 0)) (freq d))) (fun d => Ideal.sin (angle (p (ix3 0 r 0)) (freq d))) s := by
  rw [lowTile_at H W O G f p hO freq hf r l]
  unfold rotated
  have e0 : (⟨l.val % 64, by omega⟩ : Fin 64) = ⟨s.val % 64, by omega⟩ := Fin.ext (by dsimp only; omega)
  have e1 : ∀ j : Fin 64, (∑ k : Fin 1024, H (ix2 r k) * W (ix2 k ⟨l.val / 64 * 64 + j.val, by omega⟩))
      = ∑ k : Fin 1024, h k * w k ⟨s.val / 64 * 64 + j.val, by omega⟩ := fun j => Finset.sum_congr rfl fun k _ => by
    rw [hH, hW]
    exact congrArg (fun q => h k * w k q) (Fin.ext (by dsimp only; omega))
  have e2 : ∀ j : Fin 64, G (ix2 0 ⟨l.val / 64 * 64 + j.val, by omega⟩) = g j := fun j => by
    rw [hG]
    exact congrArg g (Fin.ext (by dsimp only; omega))
  simp only [e0, e1, e2]

include hO hf hH in
theorem high_rotated (W : FVec Ideal S1024x256 .bf16) (G : FVec Ideal S1x256 .f32) (src : Nat) (hs : src + 256 ≤ 3328) (hm : src % 64 = 0)
    (hW : ∀ (k : Fin 1024) (j : Fin 256), W (ix2 k j) = w k ⟨src + j.val, by omega⟩)
    (hG : ∀ j : Fin 256, G (ix2 0 j) = g ⟨j.val % 64, by omega⟩) (l : Fin 128) (s : Fin 3328) (es : s.val = src + 128 + l.val) :
    highTile H W O G f p (ix3 0 r l) = rotated (fun s => ∑ k : Fin 1024, h k * w k s) g
      (fun d => Ideal.cos (angle (p (ix3 0 r 0)) (freq d))) (fun d => Ideal.sin (angle (p (ix3 0 r 0)) (freq d))) s := by
  rw [highTile_at H W O G f p hO freq hf r l]
  unfold rotated
  have e0 : (⟨l.val % 64, by omega⟩ : Fin 64) = ⟨s.val % 64, by omega⟩ := Fin.ext (by dsimp only; omega)
  have e1 : ∀ j : Fin 64, (∑ k : Fin 1024, H (ix2 r k) * W (ix2 k ⟨128 + l.val / 64 * 64 + j.val, by omega⟩))
      = ∑ k : Fin 1024, h k * w k ⟨s.val / 64 * 64 + j.val, by omega⟩ := fun j => Finset.sum_congr rfl fun k _ => by
    rw [hH, hW]
    exact congrArg (fun q => h k * w k q) (Fin.ext (by dsimp only; omega))
  have e2 : ∀ j : Fin 64, G (ix2 0 ⟨128 + l.val / 64 * 64 + j.val, by omega⟩) = g j := fun j => by
    rw [hG]
    exact congrArg g (Fin.ext (by dsimp only; omega))
  simp only [e0, e1, e2]

include hf hH in
theorem pair_rotated (W : FVec Ideal S1024x128 .bf16) (O' : FVec Ideal S128x128 .bf16) (G : FVec Ideal S1x128 .f32)
    (hO' : ∀ k l : Fin 128, O' (ix2 k l) = if k.val / 64 = l.val / 64 then (1 : EReal) else 0) (src : Nat) (hs : src + 128 ≤ 3328)
    (hm : src % 64 = 0) (hW : ∀ (k : Fin 1024) (j : Fin 128), W (ix2 k j) = w k ⟨src + j.val, by omega⟩)
    (hG : ∀ j : Fin 128, G (ix2 0 j) = g ⟨j.val % 64, by omega⟩) (l : Fin 128) (s : Fin 3328) (es : s.val = src + l.val) :
    pairTile H W O' G f p (ix3 0 r l) = rotated (fun s => ∑ k : Fin 1024, h k * w k s) g
      (fun d => Ideal.cos (angle (p (ix3 0 r 0)) (freq d))) (fun d => Ideal.sin (angle (p (ix3 0 r 0)) (freq d))) s := by
  rw [pairTile_at H W O' G f p hO' freq hf r l]
  unfold rotated
  have e0 : (⟨l.val % 64, by omega⟩ : Fin 64) = ⟨s.val % 64, by omega⟩ := Fin.ext (by dsimp only; omega)
  have e1 : ∀ j : Fin 64, (∑ k : Fin 1024, H (ix2 r k) * W (ix2 k ⟨l.val / 64 * 64 + j.val, by omega⟩))
      = ∑ k : Fin 1024, h k * w k ⟨s.val / 64 * 64 + j.val, by omega⟩ := fun j => Finset.sum_congr rfl fun k _ => by
    rw [hH, hW]
    exact congrArg (fun q => h k * w k q) (Fin.ext (by dsimp only; omega))
  have e2 : ∀ j : Fin 64, G (ix2 0 ⟨l.val / 64 * 64 + j.val, by omega⟩) = g j := fun j => by
    rw [hG]
    exact congrArg g (Fin.ext (by dsimp only; omega))
  simp only [e0, e1, e2]

end Columns

end Cert.InProjIdeal.Whole

end
-- ==== Proof.ProjVal.lean ====
/-
  The input-projection call: the block every grid point stores, and with it the call's result.
-/
module

public import proofs.«01_k».proof.Defs
public import proofs.«01_k».proof.Proof.Gen.InProjIdeal.Value
public import proofs.«01_k».proof.Proof.ProjHost
public import proofs.«01_k».proof.Proof.ProjPay
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjIdeal.Whole

open Cert.InProjIdeal Cert.InProjIdeal.Gen Cert.ProjSpec

variable (m : (ℓ : Loc nD τ sig) → Buf (Elt Ideal) ℓ)

/-- Every window's block index at every grid point. -/
theorem idx : ∀ t : Fin cfg0.N, win0_0.index t = ![t.val / 4, t.val % 4, 0]
    ∧ win0_1.index t = ![t.val / 4, t.val % 4, 0]
    ∧ win0_2.index t = ![t.val / 4, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val / 4, t.val % 4, 0] :=
  (by decide +kernel : ∀ t : Fin grid0.N, _)

/-- An index of a stored tile by its row and lane. -/
theorem rows128 (x : S1x512x128.Idx) : ∃ r l, x = ix3 0 r l := by
  idx_vars x
  obtain rfl : x0 = 0 := Subsingleton.elim _ _
  exact ⟨x1, x2, rfl⟩

theorem rows256 (x : S1x512x256.Idx) : ∃ r l, x = ix3 0 r l := by
  idx_vars x
  obtain rfl : x0 = 0 := Subsingleton.elim _ _
  exact ⟨x1, x2, rfl⟩

/-! ## The blocks -/

theorem f_blk (c : Dev nD) (t : Fin cfg0.N) (l : Fin 128) : iblk m c 5 t (ix2 0 l) = freq ⟨l.val % 64, by omega⟩ := by
  refine (Eq.trans (b := V m c main_v14 (ix2 0 l)) (by unfold iblk; blk_ext [idx t]) (invf_V m c l)).trans ?_
  unfold freq
  rw [show l.val % 32 = l.val % 64 % 32 by omega]

section Blocks

variable (c : Dev nD) (t : Fin cfg0.N) (b : Fin 32) (i : Fin 2048) (r : Fin 512) (hb : b.val = t.val / 4)
  (hi : i.val = t.val % 4 * 512 + r.val)

include hb hi in
theorem x_blk (k : Fin 1024) : iblk m c 0 t (ix3 0 r k) = X m c (ix3 b i k) := by
  blk_point [iblk, V, idx t]

include hb hi in
theorem pos_blk : iblk m c 1 t (ix3 0 r 0) = POS m c (ix2 b i) :=
  Eq.trans (b := V m c main_v46 (ix3 b i 0)) (by unfold iblk; blk_ext [idx t]) (pos_V m c b i)

include hb in
theorem mod_blk (q : Fin 3) (k : Fin 1024) : iblk m c 2 t (ix3 0 q k) = M m c (ix2 b ⟨q.val * 1024 + k.val, by omega⟩) :=
  Eq.trans (b := V m c main_v45 (ix3 b q k)) (by unfold iblk; blk_ext [idx t]) (mod_V m c b q k)

theorem g_blk (k : Fin 1024) : iblk m c 3 t (ix2 0 k) = G m c (ix2 0 k) := by
  blk_point [iblk, V, idx t]

theorem w_blk (k : Fin 1024) (s : Fin 3328) : iblk m c 4 t (ix2 k s) = W m c (ix3 0 k s) :=
  Eq.trans (b := V m c main_v48 (ix2 k s)) (by unfold iblk; blk_ext [idx t]) (w_V m c k s)

theorem gain_blk (s : Fin 3328) : iblk m c 6 t (ix2 0 s) = V m c main_v44 (ix2 0 s) := by
  unfold iblk; blk_ext [idx t]

theorem ones_blk (k l : Fin 256) : iblk m c 7 t (ix2 k l) = if k.val / 64 = l.val / 64 then (1 : EReal) else 0 :=
  Eq.trans (b := V m c main_cst (ix2 k l)) (by unfold iblk; blk_ext [idx t]) (ones_V m c k l)

/-- The block's normalized and modulated rows. -/
abbrev HB : FVec Ideal S512x1024 .bf16 :=
  k0_pay1 (iblk m c 0 t) (View.ld (iblk m c 2 t) (Rect.unit ![0, 0, 0] ![1, 1, 1024] inb_S1x3x1024_S1x1x1024_0_0_0))
    (View.ld (iblk m c 2 t) (Rect.unit ![0, 1, 0] ![1, 1, 1024] inb_S1x3x1024_S1x1x1024_0_1_0)) (iblk m c 3 t)

include hb hi in
theorem HB_at (k : Fin 1024) : HB m c t (ix2 r k) = modulated (fun j => X m c (ix3 b i j)) (fun j => G m c (ix2 0 j))
    (fun j => M m c (ix2 b ⟨1024 + j.val, by omega⟩)) (fun j => M m c (ix2 b ⟨j.val, by omega⟩)) k := by
  unfold HB
  rw [hid_at]
  have e0 : ∀ j : Fin 1024, View.ld (iblk m c 2 t) (Rect.unit ![0, 0, 0] ![1, 1, 1024] inb_S1x3x1024_S1x1x1024_0_0_0) (ix3 0 0 j)
      = M m c (ix2 b ⟨j.val, by omega⟩) := fun j =>
    (Eq.trans (b := iblk m c 2 t (ix3 0 0 j)) (by generalize iblk m c 2 t = A; pointwise) (mod_blk m c t b i r hb 0 j)).trans
      (congrArg (fun q => M m c (ix2 b q)) (Fin.ext (by show 0 * 1024 + j.val = j.val; omega)))
  have e1 : ∀ j : Fin 1024, View.ld (iblk m c 2 t) (Rect.unit ![0, 1, 0] ![1, 1, 1024] inb_S1x3x1024_S1x1x1024_0_1_0) (ix3 0 0 j)
      = M m c (ix2 b ⟨1024 + j.val, by omega⟩) := fun j =>
    (Eq.trans (b := iblk m c 2 t (ix3 0 1 j)) (by generalize iblk m c 2 t = A; pointwise) (mod_blk m c t b i r hb 1 j)).trans
      (congrArg (fun q => M m c (ix2 b q)) (Fin.ext (by show 1 * 1024 + j.val = 1024 + j.val; omega)))
  simp only [e0, e1, x_blk m c t b i r hb hi, g_blk]

end Blocks

/-! ## The result -/

section Result

variable (c : Dev nD) (b : Fin 32) (i : Fin 2048)

/-- The projected row of a position. -/
abbrev PR : Fin 3328 → EReal :=
  projected (fun k => X m c (ix3 b i k)) (fun k => G m c (ix2 0 k)) (fun k => M m c (ix2 b ⟨1024 + k.val, by omega⟩))
    (fun k => M m c (ix2 b ⟨k.val, by omega⟩)) (fun k s => W m c (ix3 0 k s))

/-- The cosines and sines of a position. -/
abbrev CS : Fin 64 → EReal := fun d => Ideal.cos (angle (POS m c (ix2 b i)) (freq d))
abbrev SN : Fin 64 → EReal := fun d => Ideal.sin (angle (POS m c (ix2 b i)) (freq d))

/-- The call's result. -/
def Res (e : Fin 3328) : EReal :=
  result (fun b i k => X m c (ix3 b i k)) (fun b i => POS m c (ix2 b i)) (fun b k => M m c (ix2 b k)) (fun k => G m c (ix2 0 k))
    (fun k s => W m c (ix3 0 k s)) (fun d => GQA m c (ix2 0 d)) (fun d => GKA m c (ix2 0 d)) (fun d => GQB m c (ix2 0 d))
    (fun d => GKB m c (ix2 0 d)) b i e

theorem Res_entry (e : Fin 3328) : Res m c b i e = entry (PR m c b i) (fun d => GQA m c (ix2 0 d)) (fun d => GKA m c (ix2 0 d))
    (fun d => GQB m c (ix2 0 d)) (fun d => GKB m c (ix2 0 d)) (CS m c b i) (SN m c b i) e := rfl

theorem Res_qa (e s : Fin 3328) (h : e.val < 512) (hs : s.val = e.val) :
    Res m c b i e = rotated (PR m c b i) (fun d => GQA m c (ix2 0 d) * scale) (CS m c b i) (SN m c b i) s := by
  obtain rfl : s = e := Fin.ext hs
  rw [Res_entry]; unfold entry
  rw [dif_pos h]

theorem Res_ga (e s : Fin 3328) (h0 : 512 ≤ e.val) (h : e.val < 1024) (hs : s.val = e.val + 256) :
    Res m c b i e = silu (PR m c b i s) := by
  have hlt : e.val + 256 < 3328 := by omega
  obtain rfl : s = ⟨e.val + 256, hlt⟩ := Fin.ext hs
  rw [Res_entry]; unfold entry
  rw [dif_neg (by omega), dif_pos h]

theorem Res_qb (e s : Fin 3328) (h0 : 1024 ≤ e.val) (h : e.val < 1536) (hs : s.val = e.val + 256) :
    Res m c b i e = rotated (PR m c b i) (fun d => GQB m c (ix2 0 d) * scale) (CS m c b i) (SN m c b i) s := by
  have hlt : e.val + 256 < 3328 := by omega
  obtain rfl : s = ⟨e.val + 256, hlt⟩ := Fin.ext hs
  rw [Res_entry]; unfold entry
  rw [dif_neg (by omega), dif_neg (by omega), dif_pos h]

theorem Res_kb (e s : Fin 3328) (h0 : 1536 ≤ e.val) (h : e.val < 2048) (hs : s.val = e.val + 256) :
    Res m c b i e = rotated (PR m c b i) (fun d => GKB m c (ix2 0 d)) (CS m c b i) (SN m c b i) s := by
  have hlt : e.val + 256 < 3328 := by omega
  obtain rfl : s = ⟨e.val + 256, hlt⟩ := Fin.ext hs
  rw [Res_entry]; unfold entry
  rw [dif_neg (by omega), dif_neg (by omega), dif_neg (by omega), dif_pos h]

theorem Res_vb (e s : Fin 3328) (h0 : 2048 ≤ e.val) (h : e.val < 2560) (hs : s.val = e.val + 256) :
    Res m c b i e = PR m c b i s := by
  have hlt : e.val + 256 < 3328 := by omega
  obtain rfl : s = ⟨e.val + 256, hlt⟩ := Fin.ext hs
  rw [Res_entry]; unfold entry
  rw [dif_neg (by omega), dif_neg (by omega), dif_neg (by omega), dif_neg (by omega), dif_pos h]

theorem Res_gb (e s : Fin 3328) (h0 : 2560 ≤ e.val) (h : e.val < 3072) (hs : s.val = e.val + 256) :
    Res m c b i e = silu (PR m c b i s) := by
  have hlt : e.val + 256 < 3328 := by omega
  obtain rfl : s = ⟨e.val + 256, hlt⟩ := Fin.ext hs
  rw [Res_entry]; unfold entry
  rw [dif_neg (by omega), dif_neg (by omega), dif_neg (by omega), dif_neg (by omega), dif_neg (by omega), dif_pos h]

theorem Res_ka (e s : Fin 3328) (h0 : 3072 ≤ e.val) (h : e.val < 3200) (hs : s.val = e.val - 2560) :
    Res m c b i e = rotated (PR m c b i) (fun d => GKA m c (ix2 0 d)) (CS m c b i) (SN m c b i) s := by
  have hlt : e.val - 2560 < 3328 := by omega
  obtain rfl : s = ⟨e.val - 2560, hlt⟩ := Fin.ext hs
  rw [Res_entry]; unfold entry
  rw [dif_neg (by omega), dif_neg (by omega), dif_neg (by omega), dif_neg (by omega), dif_neg (by omega), dif_neg (by omega), dif_pos h]

theorem Res_va (e s : Fin 3328) (h0 : 3200 ≤ e.val) (hs : s.val = e.val - 2560) :
    Res m c b i e = PR m c b i s := by
  have hlt : e.val - 2560 < 3328 := by omega
  obtain rfl : s = ⟨e.val - 2560, hlt⟩ := Fin.ext hs
  rw [Res_entry]; unfold entry
  rw [dif_neg (by omega), dif_neg (by omega), dif_neg (by omega), dif_neg (by omega), dif_neg (by omega), dif_neg (by omega), dif_neg (by omega)]

end Result

/-! ## The stored tiles -/

section Tiles

variable (c : Dev nD) (t : Fin cfg0.N) (b : Fin 32) (i : Fin 2048) (r : Fin 512) (hb : b.val = t.val / 4)
  (hi : i.val = t.val % 4 * 512 + r.val) (g : Fin 64 → EReal) (l : Fin 128) (s : Fin 3328)

include hb hi in
theorem low_piece (src : Nat) (hs : src + 256 ≤ 3328) (hm : src % 64 = 0) (Wv : FVec Ideal S1024x256 .bf16) (Gv : FVec Ideal S1x256 .f32)
    (hW : ∀ (k : Fin 1024) (j : Fin 256), Wv (ix2 k j) = W m c (ix3 0 k ⟨src + j.val, by omega⟩))
    (hG : ∀ j : Fin 256, Gv (ix2 0 j) = g ⟨j.val % 64, by omega⟩) (es : s.val = src + l.val) :
    lowTile (HB m c t) Wv (iblk m c 7 t) Gv (iblk m c 5 t) (iblk m c 1 t) (ix3 0 r l)
      = rotated (PR m c b i) g (CS m c b i) (SN m c b i) s := by
  rw [low_rotated (HB m c t) (iblk m c 7 t) (iblk m c 5 t) (iblk m c 1 t) (ones_blk m c t) (f_blk m c t) r _ (HB_at m c t b i r hb hi)
    (fun k s => W m c (ix3 0 k s)) g Wv Gv src hs hm hW hG l s es, pos_blk m c t b i r hb hi]
  rfl

include hb hi in
theorem high_piece (src : Nat) (hs : src + 256 ≤ 3328) (hm : src % 64 = 0) (Wv : FVec Ideal S1024x256 .bf16) (Gv : FVec Ideal S1x256 .f32)
    (hW : ∀ (k : Fin 1024) (j : Fin 256), Wv (ix2 k j) = W m c (ix3 0 k ⟨src + j.val, by omega⟩))
    (hG : ∀ j : Fin 256, Gv (ix2 0 j) = g ⟨j.val % 64, by omega⟩) (es : s.val = src + 128 + l.val) :
    highTile (HB m c t) Wv (iblk m c 7 t) Gv (iblk m c 5 t) (iblk m c 1 t) (ix3 0 r l)
      = rotated (PR m c b i) g (CS m c b i) (SN m c b i) s := by
  rw [high_rotated (HB m c t) (iblk m c 7 t) (iblk m c 5 t) (iblk m c 1 t) (ones_blk m c t) (f_blk m c t) r _ (HB_at m c t b i r hb hi)
    (fun k s => W m c (ix3 0 k s)) g Wv Gv src hs hm hW hG l s es, pos_blk m c t b i r hb hi]
  rfl

include hb hi in
theorem pair_piece (src : Nat) (hs : src + 128 ≤ 3328) (hm : src % 64 = 0) (Wv : FVec Ideal S1024x128 .bf16) (Ov : FVec Ideal S128x128 .bf16)
    (Gv : FVec Ideal S1x128 .f32) (hO : ∀ k l : Fin 128, Ov (ix2 k l) = if k.val / 64 = l.val / 64 then (1 : EReal) else 0)
    (hW : ∀ (k : Fin 1024) (j : Fin 128), Wv (ix2 k j) = W m c (ix3 0 k ⟨src + j.val, by omega⟩))
    (hG : ∀ j : Fin 128, Gv (ix2 0 j) = g ⟨j.val % 64, by omega⟩) (es : s.val = src + l.val) :
    pairTile (HB m c t) Wv Ov Gv (iblk m c 5 t) (iblk m c 1 t) (ix3 0 r l)
      = rotated (PR m c b i) g (CS m c b i) (SN m c b i) s := by
  rw [pair_rotated (HB m c t) (iblk m c 5 t) (iblk m c 1 t) (f_blk m c t) r _ (HB_at m c t b i r hb hi)
    (fun k s => W m c (ix3 0 k s)) g Wv Ov Gv hO src hs hm hW hG l s es, pos_blk m c t b i r hb hi]
  rfl

include hb hi in
/-- A product with a run of the weight's columns is a run of the projection's columns. -/
theorem col_piece {n : Nat} (Wv : Fin 1024 → Fin n → EReal) (src : Nat) (hs : src + n ≤ 3328)
    (hW : ∀ (k : Fin 1024) (j : Fin n), Wv k j = W m c (ix3 0 k ⟨src + j.val, by omega⟩)) (j : Fin n) (es : s.val = src + j.val) :
    ∑ k : Fin 1024, HB m c t (ix2 r k) * Wv k j = PR m c b i s := by
  have hlt : src + j.val < 3328 := by omega
  obtain rfl : s = ⟨src + j.val, hlt⟩ := Fin.ext es
  refine Finset.sum_congr rfl fun k _ => ?_
  rw [HB_at m c t b i r hb hi, hW]

end Tiles

set_option maxHeartbeats 4000000 in
/-- What a grid point stores at an index of its block. -/
theorem out_point (c : Dev nD) (t : Fin cfg0.N) (y : S1x512x3328.Idx) (b : Fin 32) (i : Fin 2048) (e : Fin 3328)
    (hb : b.val = t.val / 4) (hi : i.val = t.val % 4 * 512 + (y 1).val) (he : e.val = (y 2).val) :
    outsAt0 m c t y = Res m c b i e := by
  unfold outsAt0
  frame_out
  canon_tiles x h using View.cover_of_tiledBy _ ![1, 512, 128] (by sl_kernel_rfl) y
  case piece0 =>
    obtain ⟨r, l, rfl⟩ := rows256 x
    have h1' : (y 1).val = r.val := h1
    have h2' : (y 2).val = 2816 + l.val := by exact h2
    rw [Res_gb m c b i e ⟨3072 + l.val, by omega⟩ (by omega) (by omega) (by dsimp only; omega)]
    exact (gate_at (HB m c t) (View.ld (iblk m c 4 t) (Rect.unit ![0, 3072] ![1024, 256] inb_S1024x3328_S1024x256_0_3072)) r l).trans
      (congrArg silu (col_piece m c t b i r hb (by omega) ⟨3072 + l.val, by omega⟩ (fun k j => (View.ld (iblk m c 4 t) (Rect.unit ![0, 3072] ![1024, 256] inb_S1024x3328_S1024x256_0_3072)) (ix2 k j)) 3072 (by omega) (fun k j => Eq.trans (b := iblk m c 4 t (ix2 k ⟨3072 + j.val, by omega⟩)) (by generalize iblk m c 4 t = A; pointwise) (w_blk m c t _ _)) l rfl))
  case piece1 =>
    obtain ⟨r, l, rfl⟩ := rows256 x
    have h1' : (y 1).val = r.val := h1
    have h2' : (y 2).val = 2560 + l.val := by exact h2
    rw [Res_gb m c b i e ⟨2816 + l.val, by omega⟩ (by omega) (by omega) (by dsimp only; omega)]
    exact (gate_at (HB m c t) (View.ld (iblk m c 4 t) (Rect.unit ![0, 2816] ![1024, 256] inb_S1024x3328_S1024x256_0_2816)) r l).trans
      (congrArg silu (col_piece m c t b i r hb (by omega) ⟨2816 + l.val, by omega⟩ (fun k j => (View.ld (iblk m c 4 t) (Rect.unit ![0, 2816] ![1024, 256] inb_S1024x3328_S1024x256_0_2816)) (ix2 k j)) 2816 (by omega) (fun k j => Eq.trans (b := iblk m c 4 t (ix2 k ⟨2816 + j.val, by omega⟩)) (by generalize iblk m c 4 t = A; pointwise) (w_blk m c t _ _)) l rfl))
  case piece2 =>
    obtain ⟨r, l, rfl⟩ := rows256 x
    have h1' : (y 1).val = r.val := h1
    have h2' : (y 2).val = 2304 + l.val := by exact h2
    rw [Res_vb m c b i e ⟨2560 + l.val, by omega⟩ (by omega) (by omega) (by dsimp only; omega)]
    exact (value256_at (HB m c t) (View.ld (iblk m c 4 t) (Rect.unit ![0, 2560] ![1024, 256] inb_S1024x3328_S1024x256_0_2560)) r l).trans
      (col_piece m c t b i r hb (by omega) ⟨2560 + l.val, by omega⟩ (fun k j => (View.ld (iblk m c 4 t) (Rect.unit ![0, 2560] ![1024, 256] inb_S1024x3328_S1024x256_0_2560)) (ix2 k j)) 2560 (by omega) (fun k j => Eq.trans (b := iblk m c 4 t (ix2 k ⟨2560 + j.val, by omega⟩)) (by generalize iblk m c 4 t = A; pointwise) (w_blk m c t _ _)) l rfl)
  case piece3 =>
    obtain ⟨r, l, rfl⟩ := rows256 x
    have h1' : (y 1).val = r.val := h1
    have h2' : (y 2).val = 2048 + l.val := by exact h2
    rw [Res_vb m c b i e ⟨2304 + l.val, by omega⟩ (by omega) (by omega) (by dsimp only; omega)]
    exact (value256_at (HB m c t) (View.ld (iblk m c 4 t) (Rect.unit ![0, 2304] ![1024, 256] inb_S1024x3328_S1024x256_0_2304)) r l).trans
      (col_piece m c t b i r hb (by omega) ⟨2304 + l.val, by omega⟩ (fun k j => (View.ld (iblk m c 4 t) (Rect.unit ![0, 2304] ![1024, 256] inb_S1024x3328_S1024x256_0_2304)) (ix2 k j)) 2304 (by omega) (fun k j => Eq.trans (b := iblk m c 4 t (ix2 k ⟨2304 + j.val, by omega⟩)) (by generalize iblk m c 4 t = A; pointwise) (w_blk m c t _ _)) l rfl)
  case piece4 =>
    obtain ⟨r, l, rfl⟩ := rows128 x
    have h1' : (y 1).val = r.val := h1
    have h2' : (y 2).val = 1920 + l.val := by exact h2
    rw [Res_kb m c b i e ⟨2176 + l.val, by omega⟩ (by omega) (by omega) (by dsimp only; omega)]
    exact high_piece m c t b i r hb (by omega) (fun d => GKB m c (ix2 0 d)) l _ 2048 (by omega) (by omega)
      (View.ld (iblk m c 4 t) (Rect.unit ![0, 2048] ![1024, 256] inb_S1024x3328_S1024x256_0_2048))
      (View.ld (iblk m c 6 t) (Rect.unit ![0, 2048] ![1, 256] inb_S1x3328_S1x256_0_2048))
      (fun k j => Eq.trans (b := iblk m c 4 t (ix2 k ⟨2048 + j.val, by omega⟩)) (by generalize iblk m c 4 t = A; pointwise) (w_blk m c t _ _))
      (fun j => ((Eq.trans (b := iblk m c 6 t (ix2 0 ⟨2048 + j.val, by omega⟩)) (by generalize iblk m c 6 t = A; pointwise) (gain_blk m c t _)).trans
        (gain_kb m c ⟨2048 + j.val, by omega⟩ (by dsimp only; omega) (by dsimp only; omega))).trans
        (congrArg (fun q => GKB m c (ix2 0 q)) (Fin.ext (by show (2048 + j.val) % 64 = j.val % 64; omega)))) rfl
  case piece5 =>
    obtain ⟨r, l, rfl⟩ := rows128 x
    have h1' : (y 1).val = r.val := h1
    have h2' : (y 2).val = 1792 + l.val := by exact h2
    rw [Res_kb m c b i e ⟨2048 + l.val, by omega⟩ (by omega) (by omega) (by dsimp only; omega)]
    exact low_piece m c t b i r hb (by omega) (fun d => GKB m c (ix2 0 d)) l _ 2048 (by omega) (by omega)
      (View.ld (iblk m c 4 t) (Rect.unit ![0, 2048] ![1024, 256] inb_S1024x3328_S1024x256_0_2048))
      (View.ld (iblk m c 6 t) (Rect.unit ![0, 2048] ![1, 256] inb_S1x3328_S1x256_0_2048))
      (fun k j => Eq.trans (b := iblk m c 4 t (ix2 k ⟨2048 + j.val, by omega⟩)) (by generalize iblk m c 4 t = A; pointwise) (w_blk m c t _ _))
      (fun j => ((Eq.trans (b := iblk m c 6 t (ix2 0 ⟨2048 + j.val, by omega⟩)) (by generalize iblk m c 6 t = A; pointwise) (gain_blk m c t _)).trans
        (gain_kb m c ⟨2048 + j.val, by omega⟩ (by dsimp only; omega) (by dsimp only; omega))).trans
        (congrArg (fun q => GKB m c (ix2 0 q)) (Fin.ext (by show (2048 + j.val) % 64 = j.val % 64; omega)))) rfl
  case piece6 =>
    obtain ⟨r, l, rfl⟩ := rows128 x
    have h1' : (y 1).val = r.val := h1
    have h2' : (y 2).val = 1664 + l.val := by exact h2
    rw [Res_kb m c b i e ⟨1920 + l.val, by omega⟩ (by omega) (by omega) (by dsimp only; omega)]
    exact high_piece m c t b i r hb (by omega) (fun d => GKB m c (ix2 0 d)) l _ 1792 (by omega) (by omega)
      (View.ld (iblk m c 4 t) (Rect.unit ![0, 1792] ![1024, 256] inb_S1024x3328_S1024x256_0_1792))
      (View.ld (iblk m c 6 t) (Rect.unit ![0, 1792] ![1, 256] inb_S1x3328_S1x256_0_1792))
      (fun k j => Eq.trans (b := iblk m c 4 t (ix2 k ⟨1792 + j.val, by omega⟩)) (by generalize iblk m c 4 t = A; pointwise) (w_blk m c t _ _))
      (fun j => ((Eq.trans (b := iblk m c 6 t (ix2 0 ⟨1792 + j.val, by omega⟩)) (by generalize iblk m c 6 t = A; pointwise) (gain_blk m c t _)).trans
        (gain_kb m c ⟨1792 + j.val, by omega⟩ (by dsimp only; omega) (by dsimp only; omega))).trans
        (congrArg (fun q => GKB m c (ix2 0 q)) (Fin.ext (by show (1792 + j.val) % 64 = j.val % 64; omega)))) rfl
  case piece7 =>
    obtain ⟨r, l, rfl⟩ := rows128 x
    have h1' : (y 1).val = r.val := h1
    have h2' : (y 2).val = 1536 + l.val := by exact h2
    rw [Res_kb m c b i e ⟨1792 + l.val, by omega⟩ (by omega) (by omega) (by dsimp only; omega)]
    exact low_piece m c t b i r hb (by omega) (fun d => GKB m c (ix2 0 d)) l _ 1792 (by omega) (by omega)
      (View.ld (iblk m c 4 t) (Rect.unit ![0, 1792] ![1024, 256] inb_S1024x3328_S1024x256_0_1792))
      (View.ld (iblk m c 6 t) (Rect.unit ![0, 1792] ![1, 256] inb_S1x3328_S1x256_0_1792))
      (fun k j => Eq.trans (b := iblk m c 4 t (ix2 k ⟨1792 + j.val, by omega⟩)) (by generalize iblk m c 4 t = A; pointwise) (w_blk m c t _ _))
      (fun j => ((Eq.trans (b := iblk m c 6 t (ix2 0 ⟨1792 + j.val, by omega⟩)) (by generalize iblk m c 6 t = A; pointwise) (gain_blk m c t _)).trans
        (gain_kb m c ⟨1792 + j.val, by omega⟩ (by dsimp only; omega) (by dsimp only; omega))).trans
        (congrArg (fun q => GKB m c (ix2 0 q)) (Fin.ext (by show (1792 + j.val) % 64 = j.val % 64; omega)))) rfl
  case piece8 =>
    obtain ⟨r, l, rfl⟩ := rows128 x
    have h1' : (y 1).val = r.val := h1
    have h2' : (y 2).val = 1408 + l.val := by exact h2
    rw [Res_qb m c b i e ⟨1664 + l.val, by omega⟩ (by omega) (by omega) (by dsimp only; omega)]
    exact high_piece m c t b i r hb (by omega) (fun d => GQB m c (ix2 0 d) * scale) l _ 1536 (by omega) (by omega)
      (View.ld (iblk m c 4 t) (Rect.unit ![0, 1536] ![1024, 256] inb_S1024x3328_S1024x256_0_1536))
      (View.ld (iblk m c 6 t) (Rect.unit ![0, 1536] ![1, 256] inb_S1x3328_S1x256_0_1536))
      (fun k j => Eq.trans (b := iblk m c 4 t (ix2 k ⟨1536 + j.val, by omega⟩)) (by generalize iblk m c 4 t = A; pointwise) (w_blk m c t _ _))
      (fun j => ((Eq.trans (b := iblk m c 6 t (ix2 0 ⟨1536 + j.val, by omega⟩)) (by generalize iblk m c 6 t = A; pointwise) (gain_blk m c t _)).trans
        (gain_qb m c ⟨1536 + j.val, by omega⟩ (by dsimp only; omega) (by dsimp only; omega))).trans
        (congrArg (fun q => GQB m c (ix2 0 q) * scale) (Fin.ext (by show (1536 + j.val) % 64 = j.val % 64; omega)))) rfl
  case piece9 =>
    obtain ⟨r, l, rfl⟩ := rows128 x
    have h1' : (y 1).val = r.val := h1
    have h2' : (y 2).val = 1280 + l.val := by exact h2
    rw [Res_qb m c b i e ⟨1536 + l.val, by omega⟩ (by omega) (by omega) (by dsimp only; omega)]
    exact low_piece m c t b i r hb (by omega) (fun d => GQB m c (ix2 0 d) * scale) l _ 1536 (by omega) (by omega)
      (View.ld (iblk m c 4 t) (Rect.unit ![0, 1536] ![1024, 256] inb_S1024x3328_S1024x256_0_1536))
      (View.ld (iblk m c 6 t) (Rect.unit ![0, 1536] ![1, 256] inb_S1x3328_S1x256_0_1536))
      (fun k j => Eq.trans (b := iblk m c 4 t (ix2 k ⟨1536 + j.val, by omega⟩)) (by generalize iblk m c 4 t = A; pointwise) (w_blk m c t _ _))
      (fun j => ((Eq.trans (b := iblk m c 6 t (ix2 0 ⟨1536 + j.val, by omega⟩)) (by generalize iblk m c 6 t = A; pointwise) (gain_blk m c t _)).trans
        (gain_qb m c ⟨1536 + j.val, by omega⟩ (by dsimp only; omega) (by dsimp only; omega))).trans
        (congrArg (fun q => GQB m c (ix2 0 q) * scale) (Fin.ext (by show (1536 + j.val) % 64 = j.val % 64; omega)))) rfl
  case piece10 =>
    obtain ⟨r, l, rfl⟩ := rows128 x
    have h1' : (y 1).val = r.val := h1
    have h2' : (y 2).val = 1152 + l.val := by exact h2
    rw [Res_qb m c b i e ⟨1408 + l.val, by omega⟩ (by omega) (by omega) (by dsimp only; omega)]
    exact high_piece m c t b i r hb (by omega) (fun d => GQB m c (ix2 0 d) * scale) l _ 1280 (by omega) (by omega)
      (View.ld (iblk m c 4 t) (Rect.unit ![0, 1280] ![1024, 256] inb_S1024x3328_S1024x256_0_1280))
      (View.ld (iblk m c 6 t) (Rect.unit ![0, 1280] ![1, 256] inb_S1x3328_S1x256_0_1280))
      (fun k j => Eq.trans (b := iblk m c 4 t (ix2 k ⟨1280 + j.val, by omega⟩)) (by generalize iblk m c 4 t = A; pointwise) (w_blk m c t _ _))
      (fun j => ((Eq.trans (b := iblk m c 6 t (ix2 0 ⟨1280 + j.val, by omega⟩)) (by generalize iblk m c 6 t = A; pointwise) (gain_blk m c t _)).trans
        (gain_qb m c ⟨1280 + j.val, by omega⟩ (by dsimp only; omega) (by dsimp only; omega))).trans
        (congrArg (fun q => GQB m c (ix2 0 q) * scale) (Fin.ext (by show (1280 + j.val) % 64 = j.val % 64; omega)))) rfl
  case piece11 =>
    obtain ⟨r, l, rfl⟩ := rows128 x
    have h1' : (y 1).val = r.val := h1
    have h2' : (y 2).val = 1024 + l.val := by exact h2
    rw [Res_qb m c b i e ⟨1280 + l.val, by omega⟩ (by omega) (by omega) (by dsimp only; omega)]
    exact low_piece m c t b i r hb (by omega) (fun d => GQB m c (ix2 0 d) * scale) l _ 1280 (by omega) (by omega)
      (View.ld (iblk m c 4 t) (Rect.unit ![0, 1280] ![1024, 256] inb_S1024x3328_S1024x256_0_1280))
      (View.ld (iblk m c 6 t) (Rect.unit ![0, 1280] ![1, 256] inb_S1x3328_S1x256_0_1280))
      (fun k j => Eq.trans (b := iblk m c 4 t (ix2 k ⟨1280 + j.val, by omega⟩)) (by generalize iblk m c 4 t = A; pointwise) (w_blk m c t _ _))
      (fun j => ((Eq.trans (b := iblk m c 6 t (ix2 0 ⟨1280 + j.val, by omega⟩)) (by generalize iblk m c 6 t = A; pointwise) (gain_blk m c t _)).trans
        (gain_qb m c ⟨1280 + j.val, by omega⟩ (by dsimp only; omega) (by dsimp only; omega))).trans
        (congrArg (fun q => GQB m c (ix2 0 q) * scale) (Fin.ext (by show (1280 + j.val) % 64 = j.val % 64; omega)))) rfl
  case piece12 =>
    obtain ⟨r, l, rfl⟩ := rows256 x
    have h1' : (y 1).val = r.val := h1
    have h2' : (y 2).val = 768 + l.val := by exact h2
    rw [Res_ga m c b i e ⟨1024 + l.val, by omega⟩ (by omega) (by omega) (by dsimp only; omega)]
    exact (gate_at (HB m c t) (View.ld (iblk m c 4 t) (Rect.unit ![0, 1024] ![1024, 256] inb_S1024x3328_S1024x256_0_1024)) r l).trans
      (congrArg silu (col_piece m c t b i r hb (by omega) ⟨1024 + l.val, by omega⟩ (fun k j => (View.ld (iblk m c 4 t) (Rect.unit ![0, 1024] ![1024, 256] inb_S1024x3328_S1024x256_0_1024)) (ix2 k j)) 1024 (by omega) (fun k j => Eq.trans (b := iblk m c 4 t (ix2 k ⟨1024 + j.val, by omega⟩)) (by generalize iblk m c 4 t = A; pointwise) (w_blk m c t _ _)) l rfl))
  case piece13 =>
    obtain ⟨r, l, rfl⟩ := rows256 x
    have h1' : (y 1).val = r.val := h1
    have h2' : (y 2).val = 512 + l.val := by exact h2
    rw [Res_ga m c b i e ⟨768 + l.val, by omega⟩ (by omega) (by omega) (by dsimp only; omega)]
    exact (gate_at (HB m c t) (View.ld (iblk m c 4 t) (Rect.unit ![0, 768] ![1024, 256] inb_S1024x3328_S1024x256_0_768)) r l).trans
      (congrArg silu (col_piece m c t b i r hb (by omega) ⟨768 + l.val, by omega⟩ (fun k j => (View.ld (iblk m c 4 t) (Rect.unit ![0, 768] ![1024, 256] inb_S1024x3328_S1024x256_0_768)) (ix2 k j)) 768 (by omega) (fun k j => Eq.trans (b := iblk m c 4 t (ix2 k ⟨768 + j.val, by omega⟩)) (by generalize iblk m c 4 t = A; pointwise) (w_blk m c t _ _)) l rfl))
  case piece14 =>
    obtain ⟨r, l, rfl⟩ := rows128 x
    have h1' : (y 1).val = r.val := h1
    have h2' : (y 2).val = 3200 + l.val := by exact h2
    rw [Res_va m c b i e ⟨640 + l.val, by omega⟩ (by omega) (by dsimp only; omega)]
    exact (value_at (HB m c t) (View.ld (iblk m c 4 t) (Rect.unit ![0, 640] ![1024, 128] inb_S1024x3328_S1024x128_0_640)) r l).trans
      (col_piece m c t b i r hb (by omega) ⟨640 + l.val, by omega⟩ (fun k j => (View.ld (iblk m c 4 t) (Rect.unit ![0, 640] ![1024, 128] inb_S1024x3328_S1024x128_0_640)) (ix2 k j)) 640 (by omega) (fun k j => Eq.trans (b := iblk m c 4 t (ix2 k ⟨640 + j.val, by omega⟩)) (by generalize iblk m c 4 t = A; pointwise) (w_blk m c t _ _)) l rfl)
  case piece15 =>
    obtain ⟨r, l, rfl⟩ := rows128 x
    have h1' : (y 1).val = r.val := h1
    have h2' : (y 2).val = 3072 + l.val := by exact h2
    rw [Res_ka m c b i e ⟨512 + l.val, by omega⟩ (by omega) (by omega) (by dsimp only; omega)]
    exact pair_piece m c t b i r hb (by omega) (fun d => GKA m c (ix2 0 d)) l _ 512 (by omega) (by omega)
      (View.ld (iblk m c 4 t) (Rect.unit ![0, 512] ![1024, 128] inb_S1024x3328_S1024x128_0_512))
      (View.ld (iblk m c 7 t) (Rect.unit ![0, 0] ![128, 128] inb_S256x256_S128x128_0_0))
      (View.ld (iblk m c 6 t) (Rect.unit ![0, 512] ![1, 128] inb_S1x3328_S1x128_0_512))
      (fun k l => Eq.trans (b := iblk m c 7 t (ix2 ⟨k.val, by omega⟩ ⟨l.val, by omega⟩)) (by generalize iblk m c 7 t = A; pointwise) (ones_blk m c t _ _))
      (fun k j => Eq.trans (b := iblk m c 4 t (ix2 k ⟨512 + j.val, by omega⟩)) (by generalize iblk m c 4 t = A; pointwise) (w_blk m c t _ _))
      (fun j => ((Eq.trans (b := iblk m c 6 t (ix2 0 ⟨512 + j.val, by omega⟩)) (by generalize iblk m c 6 t = A; pointwise) (gain_blk m c t _)).trans
        (gain_ka m c ⟨512 + j.val, by omega⟩ (by dsimp only; omega) (by dsimp only; omega))).trans
        (congrArg (fun q => GKA m c (ix2 0 q)) (Fin.ext (by show (512 + j.val) % 64 = j.val % 64; omega)))) rfl
  case piece16 =>
    obtain ⟨r, l, rfl⟩ := rows128 x
    have h1' : (y 1).val = r.val := h1
    have h2' : (y 2).val = 384 + l.val := by exact h2
    rw [Res_qa m c b i e ⟨384 + l.val, by omega⟩ (by omega) (by dsimp only; omega)]
    exact high_piece m c t b i r hb (by omega) (fun d => GQA m c (ix2 0 d) * scale) l _ 256 (by omega) (by omega)
      (View.ld (iblk m c 4 t) (Rect.unit ![0, 256] ![1024, 256] inb_S1024x3328_S1024x256_0_256))
      (View.ld (iblk m c 6 t) (Rect.unit ![0, 256] ![1, 256] inb_S1x3328_S1x256_0_256))
      (fun k j => Eq.trans (b := iblk m c 4 t (ix2 k ⟨256 + j.val, by omega⟩)) (by generalize iblk m c 4 t = A; pointwise) (w_blk m c t _ _))
      (fun j => ((Eq.trans (b := iblk m c 6 t (ix2 0 ⟨256 + j.val, by omega⟩)) (by generalize iblk m c 6 t = A; pointwise) (gain_blk m c t _)).trans
        (gain_qa m c ⟨256 + j.val, by omega⟩ (by dsimp only; omega))).trans
        (congrArg (fun q => GQA m c (ix2 0 q) * scale) (Fin.ext (by show (256 + j.val) % 64 = j.val % 64; omega)))) rfl
  case piece17 =>
    obtain ⟨r, l, rfl⟩ := rows128 x
    have h1' : (y 1).val = r.val := h1
    have h2' : (y 2).val = 256 + l.val := by exact h2
    rw [Res_qa m c b i e ⟨256 + l.val, by omega⟩ (by omega) (by dsimp only; omega)]
    exact low_piece m c t b i r hb (by omega) (fun d => GQA m c (ix2 0 d) * scale) l _ 256 (by omega) (by omega)
      (View.ld (iblk m c 4 t) (Rect.unit ![0, 256] ![1024, 256] inb_S1024x3328_S1024x256_0_256))
      (View.ld (iblk m c 6 t) (Rect.unit ![0, 256] ![1, 256] inb_S1x3328_S1x256_0_256))
      (fun k j => Eq.trans (b := iblk m c 4 t (ix2 k ⟨256 + j.val, by omega⟩)) (by generalize iblk m c 4 t = A; pointwise) (w_blk m c t _ _))
      (fun j => ((Eq.trans (b := iblk m c 6 t (ix2 0 ⟨256 + j.val, by omega⟩)) (by generalize iblk m c 6 t = A; pointwise) (gain_blk m c t _)).trans
        (gain_qa m c ⟨256 + j.val, by omega⟩ (by dsimp only; omega))).trans
        (congrArg (fun q => GQA m c (ix2 0 q) * scale) (Fin.ext (by show (256 + j.val) % 64 = j.val % 64; omega)))) rfl
  case piece18 =>
    obtain ⟨r, l, rfl⟩ := rows128 x
    have h1' : (y 1).val = r.val := h1
    have h2' : (y 2).val = 128 + l.val := by exact h2
    rw [Res_qa m c b i e ⟨128 + l.val, by omega⟩ (by omega) (by dsimp only; omega)]
    exact high_piece m c t b i r hb (by omega) (fun d => GQA m c (ix2 0 d) * scale) l _ 0 (by omega) (by omega)
      (View.ld (iblk m c 4 t) (Rect.unit ![0, 0] ![1024, 256] inb_S1024x3328_S1024x256_0_0))
      (View.ld (iblk m c 6 t) (Rect.unit ![0, 0] ![1, 256] inb_S1x3328_S1x256_0_0))
      (fun k j => Eq.trans (b := iblk m c 4 t (ix2 k ⟨0 + j.val, by omega⟩)) (by generalize iblk m c 4 t = A; pointwise) (w_blk m c t _ _))
      (fun j => ((Eq.trans (b := iblk m c 6 t (ix2 0 ⟨0 + j.val, by omega⟩)) (by generalize iblk m c 6 t = A; pointwise) (gain_blk m c t _)).trans
        (gain_qa m c ⟨0 + j.val, by omega⟩ (by dsimp only; omega))).trans
        (congrArg (fun q => GQA m c (ix2 0 q) * scale) (Fin.ext (by show (0 + j.val) % 64 = j.val % 64; omega)))) rfl
  case piece19 =>
    obtain ⟨r, l, rfl⟩ := rows128 x
    have h1' : (y 1).val = r.val := h1
    have h2' : (y 2).val = l.val := by exact h2
    rw [Res_qa m c b i e ⟨0 + l.val, by omega⟩ (by omega) (by dsimp only; omega)]
    exact low_piece m c t b i r hb (by omega) (fun d => GQA m c (ix2 0 d) * scale) l _ 0 (by omega) (by omega)
      (View.ld (iblk m c 4 t) (Rect.unit ![0, 0] ![1024, 256] inb_S1024x3328_S1024x256_0_0))
      (View.ld (iblk m c 6 t) (Rect.unit ![0, 0] ![1, 256] inb_S1x3328_S1x256_0_0))
      (fun k j => Eq.trans (b := iblk m c 4 t (ix2 k ⟨0 + j.val, by omega⟩)) (by generalize iblk m c 4 t = A; pointwise) (w_blk m c t _ _))
      (fun j => ((Eq.trans (b := iblk m c 6 t (ix2 0 ⟨0 + j.val, by omega⟩)) (by generalize iblk m c 6 t = A; pointwise) (gain_blk m c t _)).trans
        (gain_qa m c ⟨0 + j.val, by omega⟩ (by dsimp only; omega))).trans
        (congrArg (fun q => GQA m c (ix2 0 q) * scale) (Fin.ext (by show (0 + j.val) % 64 = j.val % 64; omega)))) rfl

/-- The call's result array. -/
def RES (c : Dev nD) : FVec Ideal S32x2048x3328 .bf16 := fun j => Res m c (j 0) (j 1) (j 2)

/-- After the run the result array is `RES`. -/
theorem final (c : Dev nD) : (dats m 0 c).arrAt 8 cfg0.N = RES m c := by
  refine (dats m 0 c).arrAt_eq_of_covers 8 _ (by decide +kernel) fun t hf y => ?_
  have ht : t.val < 128 := lt_of_lt_of_eq t.isLt N_0
  blk_simp; rw [after0_8]
  refine out_point m c t _ _ _ _ ?_ ?_ ?_
  all_goals (blk_simp [idx t] <;> try omega)

end Cert.InProjIdeal.Whole

end
-- ==== Proof.ProjRef.lean ====
/-
  The input-projection call's reference, read at an index: the same function of the arguments as the kernel's result.
-/
module

public import proofs.«01_k».proof.Defs
public import proofs.«01_k».proof.Proof.Gen.InProjRefIdeal.Run
public import proofs.«01_k».proof.Proof.Gen.InProjRefIdeal.Read
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.ProjRef

open Cert.InProjRefIdeal Cert.InProjRefIdeal.Gen Cert.InProjRefIdeal.Read Cert.ProjSpec

variable (x0 : FVec Ideal S32x2048x1024 .f32) (x1 : Vec Ideal S32x2048 .i32) (x2 : FVec Ideal S32x3072 .f32) (x3 : FVec Ideal S1x1024 .f32)
  (x4 : FVec Ideal S1x1024x3328 .f32)

/-! ## The angles -/

theorem freq_at (l : Fin 32) (d : Fin 64) (h : d.val % 32 = l.val) : val_main_v10 (F := Ideal) (ix1 l) = freq d := by
  unfold freq
  rw [h]
  pointwise [val_main_v10, val_main_v9, val_main_v8, val_main_v7, val_main_v6, val_main_v5, val_main_v4, val_main_v3, val_main_v2,
    val_main_v1, val_main_v0, val_main_cst, val_main_cst_0, val_main_cst_1, val_main_cst_2, val_main_cst_3]

theorem angle_at (b : Fin 32) (i : Fin 2048) (d : Fin 64) :
    val_main_v17 (F := Ideal) x1 (ix3 b i d) = angle (x1 (ix2 b i)) (freq d) := by
  have h : ∀ l : Fin 32, val_main_v16 (F := Ideal) x1 (ix3 b i l)
      = FloatOps.sitofp (F := Ideal) .f32 (x1 (ix2 b i)) * val_main_v10 (F := Ideal) (ix1 l) := fun l => by
    unfold val_main_v16 val_main_v15 val_main_v13
    generalize val_main_v10 (F := Ideal) = s
    pointwise [val_main_v14, val_main_v12, val_main_v11]
  unfold val_main_v17
  generalize hs : val_main_v16 (F := Ideal) x1 = s
  pointwise
  subst hs
  split
  · rw [h, freq_at _ d (by dsimp only; omega)]; rfl
  · rw [h, freq_at _ d (by dsimp only; omega)]; rfl

theorem cos_at (b : Fin 32) (i : Fin 2048) (d : Fin 64) :
    val_main_v18 (F := Ideal) x1 (ix3 b i d) = Ideal.cos (angle (x1 (ix2 b i)) (freq d)) :=
  congrArg Ideal.cos (angle_at x1 b i d)

theorem sin_at (b : Fin 32) (i : Fin 2048) (d : Fin 64) :
    val_main_v19 (F := Ideal) x1 (ix3 b i d) = Ideal.sin (angle (x1 (ix2 b i)) (freq d)) :=
  congrArg Ideal.sin (angle_at x1 b i d)

/-! ## The projection -/

theorem hid_at (b : Fin 32) (i : Fin 2048) (k : Fin 1024) :
    val_main_v44 (F := Ideal) x0 x2 x3 (ix3 b i k) = modulated (fun j => x0 (ix3 b i j)) (fun j => x3 (ix2 0 j))
      (fun j => x2 (ix2 b ⟨1024 + j.val, by omega⟩)) (fun j => x2 (ix2 b ⟨j.val, by omega⟩)) k := by
  unfold modulated
  pointwise [val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v21, val_main_v20,
    val_main_cst_4, val_main_cst_5, val_main_cst_6, val_main_cst_7]

theorem proj_at (b : Fin 32) (i : Fin 2048) (s : Fin 3328) :
    val_main_v46 (F := Ideal) x0 x2 x3 x4 (ix3 b i s) = projected (fun j => x0 (ix3 b i j)) (fun j => x3 (ix2 0 j))
      (fun j => x2 (ix2 b ⟨1024 + j.val, by omega⟩)) (fun j => x2 (ix2 b ⟨j.val, by omega⟩)) (fun k s => x4 (ix3 0 k s)) s := by
  have h : val_main_v46 (F := Ideal) x0 x2 x3 x4 (ix3 b i s)
      = ∑ k : Fin 1024, val_main_v44 (F := Ideal) x0 x2 x3 (ix3 b i k) * x4 (ix3 0 k s) := by
    unfold val_main_v46
    generalize val_main_v44 (F := Ideal) x0 x2 x3 = q
    pointwise [val_main_v45]
  rw [h]
  unfold projected
  simp only [hid_at]

/-! ## Eight heads -/

/-- The heads of a section, normalized. -/
def norm8 (q : FVec Ideal S32x2048x512 .f32) (g : FVec Ideal S1x64 .f32) : FVec Ideal S32x2048x8x64 .f32 :=
  mulf (mulf (shapeCast _ q shapeCasts_S32x2048x512_S32x2048x8x64)
    (broadcastInDim S32x2048x8x64 ![0, 1, 2, 3] bcast_S32x2048x8x1_S32x2048x8x64_0_1_2_3
      (Host.rsqrt (addf (Host.divf (broadcastInDim S32x2048x8x1 ![0, 1, 2] bcast_S32x2048x8_S32x2048x8x1_0_1_2
        (Host.reduceAdd (mulf (shapeCast _ q shapeCasts_S32x2048x512_S32x2048x8x64) (shapeCast _ q shapeCasts_S32x2048x512_S32x2048x8x64))
          (val_main_cst_8 (F := Ideal)) reducesTo_S32x2048x8x64_S32x2048x8_d3 h_S_)) (val_main_v60 (F := Ideal))) (val_main_v62 (F := Ideal))))))
    (broadcastInDim S32x2048x8x64 ![0, 1, 2, 3] bcast_S1x1x1x64_S32x2048x8x64_0_1_2_3
      (broadcastInDim S1x1x1x64 ![3] bcast_S64_S1x1x1x64_3 (shapeCast _ g shapeCasts_S1x64_S64)))

theorem norm8_at (q : FVec Ideal S32x2048x512 .f32) (g : FVec Ideal S1x64 .f32) (b : Fin 32) (i : Fin 2048) (h : Fin 8) (d : Fin 64) :
    norm8 q g (ix4 b i h d) = normed (fun j => q (ix3 b i ⟨h.val * 64 + j.val, by omega⟩)) (fun j => g (ix2 0 j)) d := by
  unfold normed
  pointwise [norm8, val_main_v60, val_main_v62, val_main_cst_8, val_main_cst_9, val_main_cst_10]

/-- The normalized heads, turned. -/
def turn8 (n : FVec Ideal S32x2048x8x64 .f32) (cs sn : FVec Ideal S32x2048x64 .f32) : FVec Ideal S32x2048x512 .f32 :=
  shapeCast _ (addf
    (mulf n (broadcastInDim S32x2048x8x64 ![0, 1, 2, 3] bcast_S32x2048x1x64_S32x2048x8x64_0_1_2_3
      (broadcastInDim S32x2048x1x64 ![0, 1, 3] bcast_S32x2048x64_S32x2048x1x64_0_1_3 cs)))
    (mulf (concatenate S32x2048x8x64 3
        [⟨S32x2048x8x32, Host.negf (extractStridedSlice S32x2048x8x32 ![0, 0, 0, 32] n slices_S32x2048x8x64_S32x2048x8x32_0_0_0_32)⟩,
         ⟨S32x2048x8x32, extractStridedSlice S32x2048x8x32 ![0, 0, 0, 0] n slices_S32x2048x8x64_S32x2048x8x32_0_0_0_0⟩]
        concatenates_S32x2048x8x32_S32x2048x8x32_S32x2048x8x64_d3)
      (broadcastInDim S32x2048x8x64 ![0, 1, 2, 3] bcast_S32x2048x1x64_S32x2048x8x64_0_1_2_3
        (broadcastInDim S32x2048x1x64 ![0, 1, 3] bcast_S32x2048x64_S32x2048x1x64_0_1_3 sn)))) shapeCasts_S32x2048x8x64_S32x2048x512

theorem turn8_at (n : FVec Ideal S32x2048x8x64 .f32) (cs sn : FVec Ideal S32x2048x64 .f32) (b : Fin 32) (i : Fin 2048) (e : Fin 512) :
    turn8 n cs sn (ix3 b i e) = turned (fun d => n (ix4 b i ⟨e.val / 64, by omega⟩ d)) (fun d => cs (ix3 b i d)) (fun d => sn (ix3 b i d))
      ⟨e.val % 64, by omega⟩ := by
  unfold turned
  pointwise [turn8]
  simp only [Nat.add_comm 32]
  split
  · rfl
  · rfl

/-! ## Two heads -/

/-- The heads of a section, normalized. -/
def norm2 (q : FVec Ideal S32x2048x128 .f32) (g : FVec Ideal S1x64 .f32) : FVec Ideal S32x2048x2x64 .f32 :=
  mulf (mulf (shapeCast _ q shapeCasts_S32x2048x128_S32x2048x2x64)
    (broadcastInDim S32x2048x2x64 ![0, 1, 2, 3] bcast_S32x2048x2x1_S32x2048x2x64_0_1_2_3
      (Host.rsqrt (addf (Host.divf (broadcastInDim S32x2048x2x1 ![0, 1, 2] bcast_S32x2048x2_S32x2048x2x1_0_1_2
        (Host.reduceAdd (mulf (shapeCast _ q shapeCasts_S32x2048x128_S32x2048x2x64) (shapeCast _ q shapeCasts_S32x2048x128_S32x2048x2x64))
          (val_main_cst_11 (F := Ideal)) reducesTo_S32x2048x2x64_S32x2048x2_d3 h_S_)) (val_main_v87 (F := Ideal))) (val_main_v89 (F := Ideal))))))
    (broadcastInDim S32x2048x2x64 ![0, 1, 2, 3] bcast_S1x1x1x64_S32x2048x2x64_0_1_2_3
      (broadcastInDim S1x1x1x64 ![3] bcast_S64_S1x1x1x64_3 (shapeCast _ g shapeCasts_S1x64_S64)))

theorem norm2_at (q : FVec Ideal S32x2048x128 .f32) (g : FVec Ideal S1x64 .f32) (b : Fin 32) (i : Fin 2048) (h : Fin 2) (d : Fin 64) :
    norm2 q g (ix4 b i h d) = normed (fun j => q (ix3 b i ⟨h.val * 64 + j.val, by omega⟩)) (fun j => g (ix2 0 j)) d := by
  unfold normed
  pointwise [norm2, val_main_v87, val_main_v89, val_main_cst_11, val_main_cst_12, val_main_cst_13]

/-- The normalized heads, turned. -/
def turn2 (n : FVec Ideal S32x2048x2x64 .f32) (cs sn : FVec Ideal S32x2048x64 .f32) : FVec Ideal S32x2048x128 .f32 :=
  shapeCast _ (addf
    (mulf n (broadcastInDim S32x2048x2x64 ![0, 1, 2, 3] bcast_S32x2048x1x64_S32x2048x2x64_0_1_2_3
      (broadcastInDim S32x2048x1x64 ![0, 1, 3] bcast_S32x2048x64_S32x2048x1x64_0_1_3 cs)))
    (mulf (concatenate S32x2048x2x64 3
        [⟨S32x2048x2x32, Host.negf (extractStridedSlice S32x2048x2x32 ![0, 0, 0, 32] n slices_S32x2048x2x64_S32x2048x2x32_0_0_0_32)⟩,
         ⟨S32x2048x2x32, extractStridedSlice S32x2048x2x32 ![0, 0, 0, 0] n slices_S32x2048x2x64_S32x2048x2x32_0_0_0_0⟩]
        concatenates_S32x2048x2x32_S32x2048x2x32_S32x2048x2x64_d3)
      (broadcastInDim S32x2048x2x64 ![0, 1, 2, 3] bcast_S32x2048x1x64_S32x2048x2x64_0_1_2_3
        (broadcastInDim S32x2048x1x64 ![0, 1, 3] bcast_S32x2048x64_S32x2048x1x64_0_1_3 sn)))) shapeCasts_S32x2048x2x64_S32x2048x128

theorem turn2_at (n : FVec Ideal S32x2048x2x64 .f32) (cs sn : FVec Ideal S32x2048x64 .f32) (b : Fin 32) (i : Fin 2048) (e : Fin 128) :
    turn2 n cs sn (ix3 b i e) = turned (fun d => n (ix4 b i ⟨e.val / 64, by omega⟩ d)) (fun d => cs (ix3 b i d)) (fun d => sn (ix3 b i d))
      ⟨e.val % 64, by omega⟩ := by
  unfold turned
  pointwise [turn2]
  simp only [Nat.add_comm 32]
  split
  · rfl
  · rfl

/-! ## The result -/

variable (x5 x6 x7 x8 : FVec Ideal S1x64 .f32) (b : Fin 32) (i : Fin 2048)

/-- The projected row of a position. -/
abbrev PR : Fin 3328 → EReal :=
  projected (fun k => x0 (ix3 b i k)) (fun k => x3 (ix2 0 k)) (fun k => x2 (ix2 b ⟨1024 + k.val, by omega⟩))
    (fun k => x2 (ix2 b ⟨k.val, by omega⟩)) (fun k s => x4 (ix3 0 k s))

abbrev CS : Fin 64 → EReal := fun d => Ideal.cos (angle (x1 (ix2 b i)) (freq d))
abbrev SN : Fin 64 → EReal := fun d => Ideal.sin (angle (x1 (ix2 b i)) (freq d))

/-- The turned heads of a section that starts at column `off` of the projection. -/
theorem heads8_at (q : FVec Ideal S32x2048x512 .f32) (g : FVec Ideal S1x64 .f32) (off : Nat) (ho : off + 512 ≤ 3328) (hm : off % 64 = 0)
    (hq : ∀ j : Fin 512, q (ix3 b i j) = val_main_v46 (F := Ideal) x0 x2 x3 x4 (ix3 b i ⟨off + j.val, by omega⟩)) (e : Fin 512) :
    turn8 (norm8 q g) (val_main_v18 (F := Ideal) x1) (val_main_v19 (F := Ideal) x1) (ix3 b i e)
      = rotated (PR x0 x2 x3 x4 b i) (fun d => g (ix2 0 d)) (CS x1 b i) (SN x1 b i) ⟨off + e.val, by omega⟩ := by
  rw [turn8_at]
  unfold rotated
  simp only [norm8_at, cos_at, sin_at, hq, proj_at]
  have e1 : (off + e.val) % 64 = e.val % 64 := by omega
  have e2 : ∀ j : Nat, (off + e.val) / 64 * 64 + j = off + (e.val / 64 * 64 + j) := fun j => by omega
  simp only [e1, e2]

theorem heads2_at (q : FVec Ideal S32x2048x128 .f32) (g : FVec Ideal S1x64 .f32) (off : Nat) (ho : off + 128 ≤ 3328) (hm : off % 64 = 0)
    (hq : ∀ j : Fin 128, q (ix3 b i j) = val_main_v46 (F := Ideal) x0 x2 x3 x4 (ix3 b i ⟨off + j.val, by omega⟩)) (e : Fin 128) :
    turn2 (norm2 q g) (val_main_v18 (F := Ideal) x1) (val_main_v19 (F := Ideal) x1) (ix3 b i e)
      = rotated (PR x0 x2 x3 x4 b i) (fun d => g (ix2 0 d)) (CS x1 b i) (SN x1 b i) ⟨off + e.val, by omega⟩ := by
  rw [turn2_at]
  unfold rotated
  simp only [norm2_at, cos_at, sin_at, hq, proj_at]
  have e1 : (off + e.val) % 64 = e.val % 64 := by omega
  have e2 : ∀ j : Nat, (off + e.val) / 64 * 64 + j = off + (e.val / 64 * 64 + j) := fun j => by omega
  simp only [e1, e2]

/-- A factor common to a head's gains leaves the rotated head as that factor. -/
theorem rotated_scale (P : Fin 3328 → EReal) (g cs sn : Fin 64 → EReal) (s : Fin 3328) :
    rotated P g cs sn s * scale = rotated P (fun d => g d * scale) cs sn s :=
  (turned_scale _ g cs sn _).symm

theorem qa_at (e : Fin 512) : val_main_v164 (F := Ideal) x0 x1 x2 x3 x4 x5 (ix3 b i e)
    = rotated (PR x0 x2 x3 x4 b i) (fun d => x5 (ix2 0 d) * scale) (CS x1 b i) (SN x1 b i) ⟨0 + e.val, by omega⟩ := by
  refine (congrArg (· * scale) ((show val_main_v81 (F := Ideal) x0 x1 x2 x3 x4 x5 (ix3 b i e)
    = turn8 (norm8 (val_main_v47 (F := Ideal) x0 x2 x3 x4) x5) (val_main_v18 (F := Ideal) x1) (val_main_v19 (F := Ideal) x1) (ix3 b i e) from rfl).trans
    (heads8_at x0 x1 x2 x3 x4 b i (val_main_v47 (F := Ideal) x0 x2 x3 x4) x5 0 (by omega) (by omega)
      (fun j => by unfold val_main_v47; generalize val_main_v46 (F := Ideal) x0 x2 x3 x4 = s; pointwise) e))).trans
    (rotated_scale _ _ _ _ _)

theorem qb_at (e : Fin 512) : val_main_v167 (F := Ideal) x0 x1 x2 x3 x4 x7 (ix3 b i e)
    = rotated (PR x0 x2 x3 x4 b i) (fun d => x7 (ix2 0 d) * scale) (CS x1 b i) (SN x1 b i) ⟨1280 + e.val, by omega⟩ := by
  refine (congrArg (· * scale) ((show val_main_v135 (F := Ideal) x0 x1 x2 x3 x4 x7 (ix3 b i e)
    = turn8 (norm8 (val_main_v51 (F := Ideal) x0 x2 x3 x4) x7) (val_main_v18 (F := Ideal) x1) (val_main_v19 (F := Ideal) x1) (ix3 b i e) from rfl).trans
    (heads8_at x0 x1 x2 x3 x4 b i (val_main_v51 (F := Ideal) x0 x2 x3 x4) x7 1280 (by omega) (by omega)
      (fun j => by unfold val_main_v51; generalize val_main_v46 (F := Ideal) x0 x2 x3 x4 = s; pointwise) e))).trans
    (rotated_scale _ _ _ _ _)

theorem kb_at (e : Fin 512) : val_main_v162 (F := Ideal) x0 x1 x2 x3 x4 x8 (ix3 b i e)
    = rotated (PR x0 x2 x3 x4 b i) (fun d => x8 (ix2 0 d)) (CS x1 b i) (SN x1 b i) ⟨1792 + e.val, by omega⟩ :=
  (show val_main_v162 (F := Ideal) x0 x1 x2 x3 x4 x8 (ix3 b i e)
    = turn8 (norm8 (val_main_v52 (F := Ideal) x0 x2 x3 x4) x8) (val_main_v18 (F := Ideal) x1) (val_main_v19 (F := Ideal) x1) (ix3 b i e) from rfl).trans
    (heads8_at x0 x1 x2 x3 x4 b i (val_main_v52 (F := Ideal) x0 x2 x3 x4) x8 1792 (by omega) (by omega)
      (fun j => by unfold val_main_v52; generalize val_main_v46 (F := Ideal) x0 x2 x3 x4 = s; pointwise) e)

theorem ka_at (e : Fin 128) : val_main_v108 (F := Ideal) x0 x1 x2 x3 x4 x6 (ix3 b i e)
    = rotated (PR x0 x2 x3 x4 b i) (fun d => x6 (ix2 0 d)) (CS x1 b i) (SN x1 b i) ⟨512 + e.val, by omega⟩ :=
  (show val_main_v108 (F := Ideal) x0 x1 x2 x3 x4 x6 (ix3 b i e)
    = turn2 (norm2 (val_main_v48 (F := Ideal) x0 x2 x3 x4) x6) (val_main_v18 (F := Ideal) x1) (val_main_v19 (F := Ideal) x1) (ix3 b i e) from rfl).trans
    (heads2_at x0 x1 x2 x3 x4 b i (val_main_v48 (F := Ideal) x0 x2 x3 x4) x6 512 (by omega) (by omega)
      (fun j => by unfold val_main_v48; generalize val_main_v46 (F := Ideal) x0 x2 x3 x4 = s; pointwise) e)

theorem vb_at (e : Fin 512) : val_main_v53 (F := Ideal) x0 x2 x3 x4 (ix3 b i e) = PR x0 x2 x3 x4 b i ⟨2304 + e.val, by omega⟩ := by
  refine Eq.trans (b := val_main_v46 (F := Ideal) x0 x2 x3 x4 (ix3 b i ⟨2304 + e.val, by omega⟩)) ?_ (proj_at x0 x2 x3 x4 b i _)
  unfold val_main_v53; generalize val_main_v46 (F := Ideal) x0 x2 x3 x4 = s; pointwise

theorem va_at (e : Fin 128) : val_main_v49 (F := Ideal) x0 x2 x3 x4 (ix3 b i e) = PR x0 x2 x3 x4 b i ⟨640 + e.val, by omega⟩ := by
  refine Eq.trans (b := val_main_v46 (F := Ideal) x0 x2 x3 x4 (ix3 b i ⟨640 + e.val, by omega⟩)) ?_ (proj_at x0 x2 x3 x4 b i _)
  unfold val_main_v49; generalize val_main_v46 (F := Ideal) x0 x2 x3 x4 = s; pointwise

theorem ga_at (e : Fin 512) : val_main_v165 (F := Ideal) x0 x2 x3 x4 (ix3 b i e) = silu (PR x0 x2 x3 x4 b i ⟨768 + e.val, by omega⟩) := by
  refine Eq.trans (b := silu (val_main_v50 (F := Ideal) x0 x2 x3 x4 (ix3 b i e))) ?_ (congrArg silu ?_)
  · unfold silu
    pointwise [val_main_v165, val_main_call0_v0, val_main_call0_v1, val_main_call0_cst, val_main_call0_v2, val_main_call0_v3, val_main_call0_cst_0, val_main_call0_v4, val_main_call0_v5]
  · refine Eq.trans (b := val_main_v46 (F := Ideal) x0 x2 x3 x4 (ix3 b i ⟨768 + e.val, by omega⟩)) ?_ (proj_at x0 x2 x3 x4 b i _)
    unfold val_main_v50; generalize val_main_v46 (F := Ideal) x0 x2 x3 x4 = s; pointwise

theorem gb_at (e : Fin 512) : val_main_v168 (F := Ideal) x0 x2 x3 x4 (ix3 b i e) = silu (PR x0 x2 x3 x4 b i ⟨2816 + e.val, by omega⟩) := by
  refine Eq.trans (b := silu (val_main_v54 (F := Ideal) x0 x2 x3 x4 (ix3 b i e))) ?_ (congrArg silu ?_)
  · unfold silu
    pointwise [val_main_v168, val_main_call1_v0, val_main_call1_v1, val_main_call1_cst, val_main_call1_v2, val_main_call1_v3, val_main_call1_cst_0, val_main_call1_v4, val_main_call1_v5]
  · refine Eq.trans (b := val_main_v46 (F := Ideal) x0 x2 x3 x4 (ix3 b i ⟨2816 + e.val, by omega⟩)) ?_ (proj_at x0 x2 x3 x4 b i _)
    unfold val_main_v54; generalize val_main_v46 (F := Ideal) x0 x2 x3 x4 = s; pointwise

theorem dite_step {p q : Prop} [Decidable p] [Decidable q] {a : p → EReal} {a' : ¬p → EReal} {r : q → EReal} {r' : ¬q → EReal}
    (h : p ↔ q) (h1 : ∀ hp hq, a hp = r hq) (h2 : ∀ hp hq, a' hp = r' hq) : dite p a a' = dite q r r' := by
  by_cases hp : p
  · rw [dif_pos hp, dif_pos (h.1 hp)]; exact h1 _ _
  · rw [dif_neg hp, dif_neg (mt h.2 hp)]; exact h2 _ _

/-- The reference's result at an index. -/
theorem result_at (e : Fin 3328) : val_main_v170 (F := Ideal) x0 x1 x2 x3 x4 x5 x6 x7 x8 (ix3 b i e)
    = result (fun b i k => x0 (ix3 b i k)) (fun b i => x1 (ix2 b i)) (fun b k => x2 (ix2 b k)) (fun k => x3 (ix2 0 k))
        (fun k s => x4 (ix3 0 k s)) (fun d => x5 (ix2 0 d)) (fun d => x6 (ix2 0 d)) (fun d => x7 (ix2 0 d)) (fun d => x8 (ix2 0 d)) b i e := by
  unfold val_main_v170 val_main_v169 result entry
  generalize h164 : val_main_v164 (F := Ideal) x0 x1 x2 x3 x4 x5 = t164
  generalize h165 : val_main_v165 (F := Ideal) x0 x2 x3 x4 = t165
  generalize h167 : val_main_v167 (F := Ideal) x0 x1 x2 x3 x4 x7 = t167
  generalize h162 : val_main_v162 (F := Ideal) x0 x1 x2 x3 x4 x8 = t162
  generalize h53 : val_main_v53 (F := Ideal) x0 x2 x3 x4 = t53
  generalize h168 : val_main_v168 (F := Ideal) x0 x2 x3 x4 = t168
  generalize h108 : val_main_v108 (F := Ideal) x0 x1 x2 x3 x4 x6 = t108
  generalize h49 : val_main_v49 (F := Ideal) x0 x2 x3 x4 = t49
  pointwise
  subst h164 h165 h167 h162 h53 h168 h108 h49
  simp only [qa_at, ga_at, qb_at, kb_at, vb_at, gb_at, ka_at, va_at]
  refine dite_step (by omega) (fun g0 h0 => congrArg (rotated _ _ _ _) (Fin.ext (by dsimp only; omega))) fun g0 h0 =>
    dite_step (by omega) (fun g1 h1 => congrArg (fun s => silu (PR x0 x2 x3 x4 b i s)) (Fin.ext (by dsimp only; omega))) fun g1 h1 =>
    dite_step (by omega) (fun g2 h2 => congrArg (rotated _ _ _ _) (Fin.ext (by dsimp only; omega))) fun g2 h2 =>
    dite_step (by omega) (fun g3 h3 => congrArg (rotated _ _ _ _) (Fin.ext (by dsimp only; omega))) fun g3 h3 =>
    dite_step (by omega) (fun g4 h4 => congrArg (PR x0 x2 x3 x4 b i) (Fin.ext (by dsimp only; omega))) fun g4 h4 =>
    dite_step (by omega) (fun g5 h5 => congrArg (fun s => silu (PR x0 x2 x3 x4 b i s)) (Fin.ext (by dsimp only; omega))) fun g5 h5 =>
    dite_step (by omega) (fun g6 h6 => congrArg (rotated _ _ _ _) (Fin.ext (by dsimp only; omega))) fun g6 h6 =>
    congrArg (PR x0 x2 x3 x4 b i) (Fin.ext (by dsimp only; omega))
  done

end Cert.ProjRef

end
-- ==== Proof.ClaimIn.lean ====
/-
  The input-projection call: its result at exact arithmetic is the reference's.
-/
module

public import proofs.«01_k».proof.Proof.FrameIn
public import proofs.«01_k».proof.Proof.ProjVal
public import proofs.«01_k».proof.Proof.ProjRef

@[expose] public section

set_option maxRecDepth 16384

noncomputable section

open Idealize.ShloMosaic Idealize.ShloMosaic.TcCoe Idealize.SL.Sem

namespace Cert.ClaimIn

open Cert.InProjRefIdeal Cert.InProjRefIdeal.Gen Cert.InProjRefIdeal.Read

/-- At exact arithmetic the kernel's result is the reference's. -/
theorem algebraic : Cert.algebraic_InProjIdeal_InProjRefIdeal := by
  intro m g m' g' hpre hag
  refine ⟨fun c => (Cert.InProjIdeal.Gen.dats m 0 c).arrAt 8 Cert.InProjIdeal.cfg0.N, Cert.InProjIdeal.Value.run_blocks m g, ?_⟩
  refine θ_run_mono (Cert.InProjRefIdeal.Value.run m' g') fun r h c => ⟨(h c).1.trans ?_, (h c).2⟩
  obtain ⟨h0, h1, h2, h3, h4, h5, h6, h7, h8⟩ := hag c
  rw [Cert.InProjRefIdeal.Read.val_main_v170_eq]
  show val_main_v170 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) (m' ((c : Thread nD τ).loc main_arg7)) (m' ((c : Thread nD τ).loc main_arg8)) = _
  rw [h0, h1, h2, h3, h4, h5, h6, h7, h8]
  refine Eq.trans (funext fun j => ?_) (Cert.InProjIdeal.Whole.final m c).symm
  idx_vars j
  exact Cert.ProjRef.result_at _ _ _ _ _ _ _ _ _ j0 j1 j2

end Cert.ClaimIn

end
-- ==== Proof.ClaimOut.lean ====
/-
  The output-projection call: its result as one function of its arguments, and its claims.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Whole

open Cert.OutProjIdeal Cert.OutProjIdeal.Gen

variable (m : (ℓ : Loc nD τ sig) → Buf (Elt Ideal) ℓ)

/-- One entry of the result: the input plus the gate times the two attention halves against the two halves of the
    weight's rows. -/
def entry (x : FVec Ideal S32x2048x1024 .f32) (ya yb : FVec Ideal S32x2048x512 .bf16) (w : FVec Ideal S1x1024x1024 .f32)
    (gate : FVec Ideal S32x3072 .f32) (b : Fin 32) (i : Fin 2048) (e : Fin 1024) : EReal :=
  x (ix3 b i e) + gate (ix2 b ⟨2048 + e, by omega⟩) *
    (∑ k : Fin 512, ya (ix3 b i k) * w (ix3 0 ⟨k, by omega⟩ e) + ∑ k : Fin 512, yb (ix3 b i k) * w (ix3 0 ⟨512 + k, by omega⟩ e))

/-- The result array. -/
def RES (x : FVec Ideal S32x2048x1024 .f32) (ya yb : FVec Ideal S32x2048x512 .bf16) (w : FVec Ideal S1x1024x1024 .f32)
    (gate : FVec Ideal S32x3072 .f32) : FVec Ideal S32x2048x1024 .f32 := fun j => entry x ya yb w gate (j 0) (j 1) (j 2)

/-- What the body stores, from the loaded vectors. -/
theorem pay_at (v0 v5 : FVec Ideal S1x512x512 .bf16) (v2 v7 : FVec Ideal S512x1024 .bf16) (v11 : FVec Ideal S1x512x1024 .f32)
    (v13 : FVec Ideal S1x1x1024 .f32) (i : Fin 512) (e : Fin 1024) :
    k0_pay1 (F := Ideal) v0 v2 v5 v7 v11 v13 (ix3 0 i e) = v11 (ix3 0 i e) + v13 (ix3 0 0 e) *
      (∑ k : Fin 512, v0 (ix3 0 i k) * v2 (ix2 k e) + ∑ k : Fin 512, v5 (ix3 0 i k) * v7 (ix2 k e)) := by
  pointwise [k0_pay1]

/-- Every window's block index at every grid point. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![0, 0]
    ∧ win0_4.index t = ![t.val / 4, 0, 0]
    ∧ win0_5.index t = ![t.val / 4, t.val % 4, 0] :=
  (by decide +kernel : ∀ t : Fin grid0.N, _)

/-- An index of a block of the result by its row and lane. -/
theorem rows (x : S1x512x1024.Idx) : ∃ i e, x = ix3 0 i e := by
  idx_vars x
  obtain rfl : x0 = 0 := Subsingleton.elim _ _
  exact ⟨x1, x2, rfl⟩

/-- The weight as the kernel sees it. -/
theorem w_V (c : Dev nD) (k e : Fin 1024) : V m c main_v1 (ix2 k e) = m ((c : Thread nD τ).loc main_arg3) (ix3 0 k e) := by
  unfold V
  after_results
  pointwise

/-- The modulation as the kernel sees it. -/
theorem mod_V (c : Dev nD) (b : Fin 32) (e : Fin 1024) :
    V m c main_v2 (ix3 b 2 e) = m ((c : Thread nD τ).loc main_arg4) (ix2 b ⟨2048 + e, by omega⟩) := by
  unfold V
  after_results
  pointwise

/-- The weight's block is the weight. -/
theorem w_blk (c : Dev nD) (t : Fin cfg0.N) (k e : Fin 1024) :
    iblk m c 3 t (ix2 k e) = m ((c : Thread nD τ).loc main_arg3) (ix3 0 k e) :=
  Eq.trans (b := V m c main_v1 (ix2 k e)) (by unfold iblk; blk_ext [idx t]) (w_V m c k e)

/-- The modulation's block is the batch entry's modulation. -/
theorem mod_blk (c : Dev nD) (t : Fin cfg0.N) (b : Fin 32) (e : Fin 1024) (hb : (b : ℕ) = t.val / 4) :
    iblk m c 4 t (ix3 0 2 e) = m ((c : Thread nD τ).loc main_arg4) (ix2 b ⟨2048 + e, by omega⟩) :=
  Eq.trans (b := V m c main_v2 (ix3 b 2 e)) (by unfold iblk; blk_ext [idx t]) (mod_V m c b e)

/-- An entry is the result where it sits. -/
theorem RES_at (x : FVec Ideal S32x2048x1024 .f32) (ya yb : FVec Ideal S32x2048x512 .bf16) (w : FVec Ideal S1x1024x1024 .f32)
    (gate : FVec Ideal S32x3072 .f32) (j : S32x2048x1024.Idx) (b : Fin 32) (i : Fin 2048) (e : Fin 1024) (h0 : (j 0 : ℕ) = b)
    (h1 : (j 1 : ℕ) = i) (h2 : (j 2 : ℕ) = e) : entry x ya yb w gate b i e = RES x ya yb w gate j := by
  unfold RES
  rw [show j 0 = b from Fin.ext h0, show j 1 = i from Fin.ext h1, show j 2 = e from Fin.ext h2]

/-- What a grid point stores at row `i`, lane `e` of its block. -/
theorem point (c : Dev nD) (t : Fin cfg0.N) (i : Fin 512) (e : Fin 1024) (b : Fin 32) (n : Fin 2048)
    (hb : (b : ℕ) = t.val / 4) (hn : (n : ℕ) = t.val % 4 * 512 + i) :
    k0_pay1 (iblk m c 1 t) (View.ld (iblk m c 3 t) r0_1) (iblk m c 2 t) (View.ld (iblk m c 3 t) r0_2) (iblk m c 0 t)
      (View.ld (iblk m c 4 t) r0_4) (ix3 0 i e)
      = entry (m ((c : Thread nD τ).loc main_arg0)) (m ((c : Thread nD τ).loc main_arg1)) (m ((c : Thread nD τ).loc main_arg2))
          (m ((c : Thread nD τ).loc main_arg3)) (m ((c : Thread nD τ).loc main_arg4)) b n e := by
  rw [pay_at]
  unfold entry
  have e1 : ∀ k : Fin 512, iblk m c 1 t (ix3 0 i k) = m ((c : Thread nD τ).loc main_arg1) (ix3 b n k) := fun k => by
    blk_point [iblk, V, idx t]
  have e2 : ∀ k : Fin 512, iblk m c 2 t (ix3 0 i k) = m ((c : Thread nD τ).loc main_arg2) (ix3 b n k) := fun k => by
    blk_point [iblk, V, idx t]
  have e0 : iblk m c 0 t (ix3 0 i e) = m ((c : Thread nD τ).loc main_arg0) (ix3 b n e) := by
    blk_point [iblk, V, idx t]
  have w1 : ∀ k : Fin 512, View.ld (iblk m c 3 t) r0_1 (ix2 k e) = m ((c : Thread nD τ).loc main_arg3) (ix3 0 ⟨k, by omega⟩ e) :=
    fun k => Eq.trans (b := iblk m c 3 t (ix2 ⟨k, by omega⟩ e)) (by generalize iblk m c 3 t = X; pointwise) (w_blk m c t _ _)
  have w2 : ∀ k : Fin 512, View.ld (iblk m c 3 t) r0_2 (ix2 k e) = m ((c : Thread nD τ).loc main_arg3) (ix3 0 ⟨512 + k, by omega⟩ e) :=
    fun k => Eq.trans (b := iblk m c 3 t (ix2 ⟨512 + k, by omega⟩ e)) (by generalize iblk m c 3 t = X; pointwise) (w_blk m c t _ _)
  have g : View.ld (iblk m c 4 t) r0_4 (ix3 0 0 e) = m ((c : Thread nD τ).loc main_arg4) (ix2 b ⟨2048 + e, by omega⟩) :=
    Eq.trans (b := iblk m c 4 t (ix3 0 2 e)) (by generalize iblk m c 4 t = X; pointwise) (mod_blk m c t b e hb)
  simp only [e0, e1, e2, w1, w2, g]

/-- After the run the result array is `RES` of the arguments. -/
theorem final (c : Dev nD) :
    (dats m 0 c).arrAt 5 cfg0.N = RES (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 128 := lt_of_lt_of_eq t.isLt N_0
  blk_simp; rw [after0_5]; frame_out
  obtain ⟨i, e, rfl⟩ := rows y
  refine (point m c t i e ⟨t.val / 4, by omega⟩ ⟨t.val % 4 * 512 + i, by omega⟩ rfl rfl).trans (RES_at _ _ _ _ _ _ _ _ _ ?_ ?_ ?_)
  · blk_simp [idx t]
    simp
  all_goals (blk_simp [idx t] <;> try omega)

end Cert.OutProjIdeal.Whole

namespace Cert.ClaimOut

open Cert.OutProjRefIdeal Cert.OutProjRefIdeal.Gen Cert.OutProjRefIdeal.Read

/-- The joined attention outputs at a row and lane. -/
theorem joined_at (ya yb : FVec Ideal S32x2048x512 .bf16) (b : Fin 32) (i : Fin 2048) (k : Fin 1024) :
    val_main_v1 (F := Ideal) ya yb (ix3 b i k) =
      if h : (k : ℕ) < 512 then ya (ix3 b i ⟨k, h⟩) else yb (ix3 b i ⟨k - 512, by omega⟩) := by
  pointwise [val_main_v1, val_main_v0]

/-- The product with the weight, the inner sum split where the attention outputs meet. -/
theorem prod_at (ya yb : FVec Ideal S32x2048x512 .bf16) (w : FVec Ideal S1x1024x1024 .f32) (b : Fin 32) (i : Fin 2048) (e : Fin 1024) :
    val_main_v3 (F := Ideal) ya yb w (ix3 b i e) =
      ∑ k : Fin 512, ya (ix3 b i k) * w (ix3 0 ⟨k, by omega⟩ e) + ∑ k : Fin 512, yb (ix3 b i k) * w (ix3 0 ⟨512 + k, by omega⟩ e) := by
  have h : val_main_v3 (F := Ideal) ya yb w (ix3 b i e) =
      ∑ k : Fin 1024, val_main_v1 (F := Ideal) ya yb (ix3 b i k) * w (ix3 0 k e) := by
    unfold val_main_v3
    generalize val_main_v1 (F := Ideal) ya yb = s
    pointwise [val_main_v2]
  rw [h]
  simp only [joined_at]
  rw [Fin.sum_univ_two_halves 512 512 rfl]
  refine congrArg₂ (· + ·) (Finset.sum_congr rfl fun k _ => ?_) (Finset.sum_congr rfl fun k _ => ?_)
  · rw [dif_pos k.isLt]
  · rw [dif_neg (by show ¬ (512 + (k : ℕ) < 512); omega)]
    have hk : (⟨512 + (k : ℕ) - 512, by omega⟩ : Fin 512) = k := Fin.ext (Nat.add_sub_cancel_left 512 k)
    exact congrArg (fun q => yb (ix3 b i q) * w (ix3 0 ⟨512 + k, by omega⟩ e)) hk

/-- The reference's result is the kernel's result function. -/
theorem ref_eq (x : FVec Ideal S32x2048x1024 .f32) (ya yb : FVec Ideal S32x2048x512 .bf16) (w : FVec Ideal S1x1024x1024 .f32)
    (gate : FVec Ideal S32x3072 .f32) :
    val_main_v8 (F := Ideal) x ya yb w gate = Cert.OutProjIdeal.Whole.RES x ya yb w gate := by
  funext j
  idx_vars j
  have h : val_main_v8 (F := Ideal) x ya yb w gate (ix3 j0 j1 j2) =
      x (ix3 j0 j1 j2) + gate (ix2 j0 ⟨2048 + j2, by omega⟩) * val_main_v3 (F := Ideal) ya yb w (ix3 j0 j1 j2) := by
    unfold val_main_v8 val_main_v7
    generalize val_main_v3 (F := Ideal) ya yb w = s
    pointwise [val_main_v6, val_main_v5, val_main_v4]
  rw [h, prod_at]
  rfl

/-- At exact arithmetic the kernel's result is the reference's. -/
theorem algebraic : Cert.algebraic_OutProjIdeal_OutProjRefIdeal := by
  intro m g m' g' hpre hag
  refine ⟨fun c => (Cert.OutProjIdeal.Gen.dats m 0 c).arrAt 5 Cert.OutProjIdeal.cfg0.N, Cert.OutProjIdeal.Value.run_blocks m g, ?_⟩
  refine θ_run_mono (Cert.OutProjRefIdeal.Value.run m' g') fun r h c => ⟨(h c).1.trans ?_, (h c).2⟩
  obtain ⟨h0, h1, h2, h3, h4⟩ := hag c
  rw [Cert.OutProjRefIdeal.Read.val_main_v8_eq, h0, h1, h2, h3, h4]
  exact (ref_eq _ _ _ _ _).trans (Cert.OutProjIdeal.Whole.final m c).symm

/-- The kernel's run ends with its arguments unchanged and its semaphores at zero. -/
theorem frame : Cert.quiescent_OutProj := fun m g _ => Cert.OutProj.Gen.frame m g

/-- The same of its exact form. -/
theorem frameIdeal : Cert.quiescent_OutProjIdeal := fun m g _ => Cert.OutProjIdeal.Gen.frame m g

/-- The reference's run ends with its arguments unchanged; it has no semaphore. -/
theorem frameRef : Cert.quiescent_OutProjRefIdeal := fun m g _ =>
  θ_run_mono (Cert.OutProjRefIdeal.Value.run m g) fun r h => ⟨fun c => (h c).2, sem_eq_zero_of_no_sems rfl r.2⟩

end Cert.ClaimOut

end
-- ==== Proof.ClaimAda.lean ====
/-
  The modulation call: its result as one function of its arguments, and its claims.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdaIdeal.Whole

open Cert.AdaIdeal Cert.AdaIdeal.Gen

variable (m : (ℓ : Loc nD τ sig) → Buf (Elt Ideal) ℓ)

/-- One entry of the modulation: the conditioning vector through x / (1 + exp (-x)), times the weight's column, plus the bias. -/
def entry (x : FVec Ideal S32x1024 .f32) (w : FVec Ideal S1x1024x3072 .f32) (bias : FVec Ideal S1x3072 .f32) (b : Fin 32)
    (e : Fin 3072) : EReal :=
  ∑ k : Fin 1024, x (ix2 b k) * Ideal.logistic (x (ix2 b k)) * w (ix3 0 k e) + bias (ix2 0 e)

/-- The result array. -/
def RES (x : FVec Ideal S32x1024 .f32) (w : FVec Ideal S1x1024x3072 .f32) (bias : FVec Ideal S1x3072 .f32) :
    FVec Ideal S32x3072 .f32 := fun j => entry x w bias (j 0) (j 1)

/-- What the body stores, from the loaded vectors. -/
theorem pay_at (v0 : FVec Ideal S32x1024 .f32) (v4 : FVec Ideal S1024x1024 .f32) (v8 : FVec Ideal S1x1024 .f32) (i : Fin 32)
    (e : Fin 1024) : k0_pay1 (F := Ideal) v0 v4 v8 (ix2 i e) =
      ∑ k : Fin 1024, v0 (ix2 i k) * Ideal.logistic (v0 (ix2 i k)) * v4 (ix2 k e) + v8 (ix2 0 e) := by
  pointwise [k0_pay1]

/-- Every window's block index at every grid point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The weight as the kernel sees it. -/
theorem w_V (c : Dev nD) (k : Fin 1024) (e : Fin 3072) :
    V m c main_v0 (ix2 k e) = m ((c : Thread nD τ).loc main_arg1) (ix3 0 k e) := by
  unfold V
  after_results
  pointwise

/-- The bias as the kernel sees it. -/
theorem bias_V (c : Dev nD) (e : Fin 3072) : V m c main_v2 (ix2 0 e) = m ((c : Thread nD τ).loc main_arg2) (ix2 0 e) := by
  unfold V
  after_results
  pointwise

/-- An entry is the result where it sits. -/
theorem RES_at (x : FVec Ideal S32x1024 .f32) (w : FVec Ideal S1x1024x3072 .f32) (bias : FVec Ideal S1x3072 .f32)
    (j : S32x3072.Idx) (b : Fin 32) (e : Fin 3072) (h0 : (j 0 : ℕ) = b) (h1 : (j 1 : ℕ) = e) :
    entry x w bias b e = RES x w bias j := by
  unfold RES
  rw [show j 0 = b from Fin.ext h0, show j 1 = e from Fin.ext h1]

/-- What a grid point stores at row `i`, lane `e` of its block. -/
theorem point (c : Dev nD) (t : Fin cfg0.N) (i : Fin 32) (e : Fin 1024) (n : Fin 3072) (hn : (n : ℕ) = t.val * 1024 + e) :
    k0_pay1 (iblk m c 0 t) (iblk m c 1 t) (iblk m c 2 t) (ix2 i e)
      = entry (m ((c : Thread nD τ).loc main_arg0)) (m ((c : Thread nD τ).loc main_arg1)) (m ((c : Thread nD τ).loc main_arg2)) i n := by
  rw [pay_at]
  unfold entry
  have e0 : ∀ k : Fin 1024, iblk m c 0 t (ix2 i k) = m ((c : Thread nD τ).loc main_arg0) (ix2 i k) := fun k => by
    blk_point [iblk, V, idx t]
  have e1 : ∀ k : Fin 1024, iblk m c 1 t (ix2 k e) = m ((c : Thread nD τ).loc main_arg1) (ix3 0 k n) := fun k =>
    Eq.trans (b := V m c main_v0 (ix2 k n)) (by unfold iblk; blk_ext [idx t]) (w_V m c _ _)
  have e2 : iblk m c 2 t (ix2 0 e) = m ((c : Thread nD τ).loc main_arg2) (ix2 0 n) :=
    Eq.trans (b := V m c main_v2 (ix2 0 n)) (by unfold iblk; blk_ext [idx t]) (bias_V m c _)
  simp only [e0, e1, e2]

/-- An index of a block of the result by its row and lane. -/
theorem rows (x : S32x1024.Idx) : ∃ i e, x = ix2 i e := by
  idx_vars x
  exact ⟨x0, x1, rfl⟩

/-- After the run the result array is `RES` of the arguments. -/
theorem final (c : Dev nD) :
    (dats m 0 c).arrAt 3 cfg0.N = RES (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht : t.val < 3 := lt_of_lt_of_eq t.isLt N_0
  blk_simp; rw [after0_3]; frame_out
  obtain ⟨i, e, rfl⟩ := rows y
  refine (point m c t i e ⟨t.val * 1024 + e, by omega⟩ rfl).trans (RES_at _ _ _ _ _ _ ?_ ?_)
  all_goals (blk_simp [idx t] <;> try omega)

end Cert.AdaIdeal.Whole

namespace Cert.ClaimAda

open Cert.AdaRefIdeal Cert.AdaRefIdeal.Gen Cert.AdaRefIdeal.Read

/-- The bits of one. -/
theorem ofBits_one : Ideal.ofBits .f32 0x3F800000#32 = 1 := by
  simp [Ideal.ofBits, Ideal.ieee]
  rw [← EReal.coe_mul]
  norm_num

/-- The reference's activation is the input times its logistic. -/
theorem silu_at (x : FVec Ideal S32x1024 .f32) (b : Fin 32) (k : Fin 1024) :
    val_main_v0 (F := Ideal) x (ix2 b k) = x (ix2 b k) * Ideal.logistic (x (ix2 b k)) := by
  have h : val_main_v0 (F := Ideal) x (ix2 b k) = x (ix2 b k) *
      Ideal.div (Ideal.ofBits .f32 0x3F800000#32) (Ideal.ofBits .f32 0x3F800000#32 + Ideal.exp (-(x (ix2 b k)))) := by
    pointwise [val_main_v0, val_main_call0_v5, val_main_call0_v4, val_main_call0_cst_0, val_main_call0_v3, val_main_call0_v2,
      val_main_call0_cst, val_main_call0_v1, val_main_call0_v0]
  rw [h, ofBits_one]
  rfl

/-- The reference's result is the kernel's result function. -/
theorem ref_eq (x : FVec Ideal S32x1024 .f32) (w : FVec Ideal S1x1024x3072 .f32) (bias : FVec Ideal S1x3072 .f32) :
    val_main_v6 (F := Ideal) x w bias = Cert.AdaIdeal.Whole.RES x w bias := by
  funext j
  idx_vars j
  have h : val_main_v6 (F := Ideal) x w bias (ix2 j0 j1) =
      ∑ k : Fin 1024, val_main_v0 (F := Ideal) x (ix2 j0 k) * w (ix3 0 k j1) + bias (ix2 0 j1) := by
    unfold val_main_v6 val_main_v2
    generalize val_main_v0 (F := Ideal) x = s
    pointwise [val_main_v1, val_main_v5, val_main_v4, val_main_v3]
  rw [h]
  simp only [silu_at]
  rfl

/-- At exact arithmetic the kernel's result is the reference's. -/
theorem algebraic : Cert.algebraic_AdaIdeal_AdaRefIdeal := by
  intro m g m' g' hpre hag
  refine ⟨fun c => (Cert.AdaIdeal.Gen.dats m 0 c).arrAt 3 Cert.AdaIdeal.cfg0.N, Cert.AdaIdeal.Value.run_blocks m g, ?_⟩
  refine θ_run_mono (Cert.AdaRefIdeal.Value.run m' g') fun r h c => ⟨(h c).1.trans ?_, (h c).2⟩
  obtain ⟨h0, h1, h2⟩ := hag c
  rw [Cert.AdaRefIdeal.Read.val_main_v6_eq, h0, h1, h2]
  exact (ref_eq _ _ _).trans (Cert.AdaIdeal.Whole.final m c).symm

/-- The kernel's run ends with its arguments unchanged and its semaphores at zero. -/
theorem frame : Cert.quiescent_Ada := fun m g _ => Cert.Ada.Gen.frame m g

/-- The same of its exact form. -/
theorem frameIdeal : Cert.quiescent_AdaIdeal := fun m g _ => Cert.AdaIdeal.Gen.frame m g

/-- The reference's run ends with its arguments unchanged; it has no semaphore. -/
theorem frameRef : Cert.quiescent_AdaRefIdeal := fun m g _ =>
  θ_run_mono (Cert.AdaRefIdeal.Value.run m g) fun r h => ⟨fun c => (h c).2, sem_eq_zero_of_no_sems rfl r.2⟩

end Cert.ClaimAda

end
-- ==== Proof.lean ====
module

public import proofs.«01_k».proof.Defs
public import proofs.«01_k».proof.Proof.Gen.AttnB
public import proofs.«01_k».proof.Proof.Gen.AttnB.Skeleton
public import proofs.«01_k».proof.Proof.Gen.AttnB.Launch
public import proofs.«01_k».proof.Proof.Gen.AttnB.Points
public import proofs.«01_k».proof.Proof.Gen.AttnB.Frame
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Frame
public import proofs.«01_k».proof.Proof.Gen.AttnBRefIdeal
public import proofs.«01_k».proof.Proof.Gen.AttnA
public import proofs.«01_k».proof.Proof.Gen.AttnA.Skeleton
public import proofs.«01_k».proof.Proof.Gen.AttnA.Launch
public import proofs.«01_k».proof.Proof.Gen.AttnA.Points
public import proofs.«01_k».proof.Proof.Gen.AttnA.Frame
public import proofs.«01_k».proof.Proof.Gen.AttnAIdeal
public import proofs.«01_k».proof.Proof.Gen.AttnAIdeal.Skeleton
public import proofs.«01_k».proof.Proof.Gen.AttnAIdeal.Launch
public import proofs.«01_k».proof.Proof.Gen.AttnAIdeal.Points
public import proofs.«01_k».proof.Proof.Gen.AttnAIdeal.Frame
public import proofs.«01_k».proof.Proof.Gen.AttnARefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.Pre_finite_b
public import proofs.«01_k».proof.Proof.Gen.Pre_finite_a
public import proofs.«01_k».proof.Proof.Gen.AttnBIdeal.Value
public import proofs.«01_k».proof.Proof.Gen.AttnBRefIdeal.Run
public import proofs.«01_k».proof.Proof.Gen.AttnBRefIdeal.Read
public import proofs.«01_k».proof.Proof.Gen.AttnAIdeal.Value
public import proofs.«01_k».proof.Proof.Gen.AttnARefIdeal.Run
public import proofs.«01_k».proof.Proof.Gen.AttnARefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.AdaIdeal.Value
public import proofs.«01_k».proof.Proof.Gen.AdaRefIdeal.Run
public import proofs.«01_k».proof.Proof.Gen.AdaRefIdeal.Read
public import proofs.«01_k».proof.Proof.ClaimB
public import proofs.«01_k».proof.Proof.ClaimA
public import proofs.«01_k».proof.Proof.ClaimIn
public import proofs.«01_k».proof.Proof.ClaimOut
public import proofs.«01_k».proof.Proof.ClaimAda
public import Idealize.ShloMosaic.Adequacy
public import Idealize.ShloMosaic.Init

@[expose] public section

noncomputable section

namespace Cert.Proof

open Idealize.ShloMosaic Idealize.SL.Sem Cert.AttnB

/-- Everything the certificate claims. -/
theorem claim : Cert.Claim := ⟨Cert.AttnB.Gen.facts, Cert.AttnBIdeal.Gen.facts, Cert.AttnBRefIdeal.Gen.facts, Cert.AttnA.Gen.facts, Cert.AttnAIdeal.Gen.facts, Cert.AttnARefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Ada.Gen.facts, Cert.AdaIdeal.Gen.facts, Cert.AdaRefIdeal.Gen.facts, Cert.Pre_finite_b.Gen.facts, Cert.Pre_finite_a.Gen.facts,
  ClaimB.frame, ClaimB.frameIdeal, ClaimB.frameIdealPre, ClaimB.frameRef, ClaimB.frameRefPre,
  ClaimA.frame, ClaimA.frameIdeal, ClaimA.frameIdealPre, ClaimA.frameRef, ClaimA.frameRefPre,
  ClaimIn.frame, ClaimIn.frameIdeal, ClaimIn.frameRef,
  ClaimOut.frame, ClaimOut.frameIdeal, ClaimOut.frameRef,
  ClaimAda.frame, ClaimAda.frameIdeal, ClaimAda.frameRef,
  trivial, ClaimB.algebraic,
  ClaimA.preserves, ClaimA.algebraic,
  trivial, ClaimIn.algebraic,
  trivial, ClaimOut.algebraic,
  trivial, ClaimAda.algebraic⟩

end Cert.Proof

end
